-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "mask" .f32 0xFF61B1E6#32 ⊥
  ∧ IdealRules.named_const.Statement Cert.KernelIdeal.κ "inv_sqrt2" .f32 0x3F3504F3#32 (((Real.sqrt 2)⁻¹ : ℝ) : EReal)

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ preserves_Kernel_KernelIdeal
    ∧ algebraic_KernelIdeal_ReferenceIdeal_pre_finite_logits (hKernelIdeal := hKernelIdeal) (hReferenceIdeal := hReferenceIdeal) (hPre_finite_logits := hPre_finite_logits)
-- ==== Pre_finite_logits.lean ====
abbrev S2048x1024 : Shape := ⟨2, ![2048, 1024]⟩
abbrev S2048x64 : Shape := ⟨2, ![2048, 64]⟩
abbrev S64 : Shape := ⟨1, ![64]⟩
abbrev S64x512x1024 : Shape := ⟨3, ![64, 512, 1024]⟩
abbrev S64x1024x512 : Shape := ⟨3, ![64, 1024, 512]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel

variable [Facts]

def fn {F : FTy → Type} [FloatOps F] (main_arg0 : FVec F S2048x1024 .f32) (main_arg1 : FVec F S2048x64 .f32) (main_arg2 : FVec F S64 .f32) (main_arg3 : FVec F S64x512x1024 .f32) (main_arg4 : FVec F S64x512x1024 .f32) (main_arg5 : FVec F S64x1024x512 .f32) : IVec S_ 1 :=
  let main_v0 : FVec F S2048x64 .f32 := Host.absf main_arg1
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_c : IVec S_ 1 := constantI S_ 1 1#1
  let main_v3 : IVec S_ 1 := (fun x v => Host.reduce IntOp.andi x v reducesTo_S2048x64_S_d0_1 h_S_) main_v2 main_c
  main_v3
-- ==== Kernel.lean ====
abbrev S2048x1024 : Shape := ⟨2, ![2048, 1024]⟩
abbrev S2048x64 : Shape := ⟨2, ![2048, 64]⟩
abbrev S64 : Shape := ⟨1, ![64]⟩
abbrev S64x512x1024 : Shape := ⟨3, ![64, 512, 1024]⟩
abbrev S64x1024x512 : Shape := ⟨3, ![64, 1024, 512]⟩
abbrev S1x64 : Shape := ⟨2, ![1, 64]⟩
abbrev S1x2048x1024 : Shape := ⟨3, ![1, 2048, 1024]⟩
abbrev S2x512x1024 : Shape := ⟨3, ![2, 512, 1024]⟩
abbrev S2x1024x512 : Shape := ⟨3, ![2, 1024, 512]⟩
abbrev S2x2048 : Shape := ⟨2, ![2, 2048]⟩
abbrev S2048x2 : Shape := ⟨2, ![2048, 2]⟩
abbrev S2048 : Shape := ⟨1, ![2048]⟩
abbrev S2048x1 : Shape := ⟨2, ![2048, 1]⟩
abbrev S2047x64 : Shape := ⟨2, ![2047, 64]⟩
abbrev S2x64 : Shape := ⟨2, ![2, 64]⟩
abbrev S2046x64 : Shape := ⟨2, ![2046, 64]⟩
abbrev S4x64 : Shape := ⟨2, ![4, 64]⟩
abbrev S2044x64 : Shape := ⟨2, ![2044, 64]⟩
abbrev S8x64 : Shape := ⟨2, ![8, 64]⟩
abbrev S2040x64 : Shape := ⟨2, ![2040, 64]⟩
abbrev S16x64 : Shape := ⟨2, ![16, 64]⟩
abbrev S2032x64 : Shape := ⟨2, ![2032, 64]⟩
abbrev S32x64 : Shape := ⟨2, ![32, 64]⟩
abbrev S2016x64 : Shape := ⟨2, ![2016, 64]⟩
abbrev S64x64 : Shape := ⟨2, ![64, 64]⟩
abbrev S1984x64 : Shape := ⟨2, ![1984, 64]⟩
abbrev S128x64 : Shape := ⟨2, ![128, 64]⟩
abbrev S1920x64 : Shape := ⟨2, ![1920, 64]⟩
abbrev S256x64 : Shape := ⟨2, ![256, 64]⟩
abbrev S1792x64 : Shape := ⟨2, ![1792, 64]⟩
abbrev S512x64 : Shape := ⟨2, ![512, 64]⟩
abbrev S1536x64 : Shape := ⟨2, ![1536, 64]⟩
abbrev S1024x64 : Shape := ⟨2, ![1024, 64]⟩
abbrev S1x2048 : Shape := ⟨2, ![1, 2048]⟩
abbrev S320x2048 : Shape := ⟨2, ![320, 2048]⟩
abbrev S320x1024 : Shape := ⟨2, ![320, 1024]⟩
abbrev S160x1024 : Shape := ⟨2, ![160, 1024]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩
abbrev S160x512 : Shape := ⟨2, ![160, 512]⟩
abbrev S2048x320 : Shape := ⟨2, ![2048, 320]⟩

abbrev nBuf : Space → Nat
  | .hbm => 9
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S2048x64, .f32⟩
  | .hbm, ⟨2, _⟩ => ⟨S64, .f32⟩
  | .hbm, ⟨3, _⟩ => ⟨S64x512x1024, .f32⟩
  | .hbm, ⟨4, _⟩ => ⟨S64x512x1024, .f32⟩
  | .hbm, ⟨5, _⟩ => ⟨S64x1024x512, .f32⟩
  | .hbm, ⟨6, _⟩ => ⟨S1x64, .f32⟩
  | .hbm, ⟨7, _⟩ => ⟨S2048x1024, .bf16⟩
  | .hbm, ⟨8, _⟩ => ⟨S1x2048x1024, .f32⟩
  | .local _ .vmem, ⟨0, _⟩ => ⟨S1x64, .f32⟩
  | .local _ .vmem, ⟨1, _⟩ => ⟨S2048x64, .f32⟩
  | .local _ .vmem, ⟨2, _⟩ => ⟨S2048x1024, .bf16⟩
  | .local _ .vmem, ⟨3, _⟩ => ⟨S2x512x1024, .f32⟩
  | .local _ .vmem, ⟨4, _⟩ => ⟨S2x512x1024, .f32⟩
  | .local _ .vmem, ⟨5, _⟩ => ⟨S2x512x1024, .f32⟩
  | .local _ .vmem, ⟨6, _⟩ => ⟨S2x512x1024, .f32⟩
  | .local _ .vmem, ⟨7, _⟩ => ⟨S2x1024x512, .f32⟩
  | .local _ .vmem, ⟨8, _⟩ => ⟨S2x1024x512, .f32⟩
  | .local _ .vmem, ⟨9, _⟩ => ⟨S1x2048x1024, .f32⟩
  | .local _ .vmem, ⟨10, _⟩ => ⟨S2x2048, .i32⟩
  | .local _ .vmem, ⟨11, _⟩ => ⟨S2048x2, .i32⟩
  | .local _ .vmem, ⟨12, _⟩ => ⟨S2048x2, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨2, ![1, 32], ![false, false]⟩

def k0_cond2 (i : grid0.Coords) : BitVec 1 :=
  let arg1 : BitVec 32 := BitVec.ofNat 32 (i 1).val
  let c0_i32_47 : BitVec 32 := 0#32
  let v88 : BitVec 1 := Scalar.cmpi .eq arg1 c0_i32_47
  let v89 : BitVec 32 := Scalar.extui v88
  let c0_i32_48 : BitVec 32 := 0#32
  let v90 : BitVec 1 := Scalar.cmpi .ne v89 c0_i32_48
  v90

def k0_cond3 (i : grid0.Coords) : BitVec 1 :=
  let arg1 : BitVec 32 := BitVec.ofNat 32 (i 1).val
  let c0_i32_49 : BitVec 32 := 0#32
  let v91 : BitVec 1 := Scalar.cmpi .sgt arg1 c0_i32_49
  let v92 : BitVec 32 := Scalar.extui v91
  let c0_i32_50 : BitVec 32 := 0#32
  let v93 : BitVec 1 := Scalar.cmpi .ne v92 c0_i32_50
  v93

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x2048x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== KernelIdeal.lean ====
variable {F : FTy → Type} [FloatOps F] [Named F]
def κ : String → Option EReal := fun
  | "inv_sqrt2" => some (((Real.sqrt 2)⁻¹ : ℝ) : EReal)
  | "mask" => some ⊥
  | _ => none
-- ==== ReferenceIdeal.lean ====
abbrev S2048x1024 : Shape := ⟨2, ![2048, 1024]⟩
abbrev S2048x64 : Shape := ⟨2, ![2048, 64]⟩
abbrev S64 : Shape := ⟨1, ![64]⟩
abbrev S64x512x1024 : Shape := ⟨3, ![64, 512, 1024]⟩
abbrev S64x1024x512 : Shape := ⟨3, ![64, 1024, 512]⟩
abbrev S2048x2 : Shape := ⟨2, ![2048, 2]⟩
abbrev S_ : Shape := ⟨0, ![]⟩
abbrev S2048 : Shape := ⟨1, ![2048]⟩
abbrev S2048x1 : Shape := ⟨2, ![2048, 1]⟩
abbrev S2048x2x1 : Shape := ⟨3, ![2048, 2, 1]⟩
abbrev S1x1x64 : Shape := ⟨3, ![1, 1, 64]⟩
abbrev S2048x2x64 : Shape := ⟨3, ![2048, 2, 64]⟩
abbrev S1 : Shape := ⟨1, ![1]⟩
abbrev S1x1x1 : Shape := ⟨3, ![1, 1, 1]⟩
abbrev S2x2048 : Shape := ⟨2, ![2, 2048]⟩
abbrev S4096 : Shape := ⟨1, ![4096]⟩
abbrev S1x2048 : Shape := ⟨2, ![1, 2048]⟩
abbrev S4096x1 : Shape := ⟨2, ![4096, 1]⟩
abbrev S1x64 : Shape := ⟨2, ![1, 64]⟩
abbrev S4096x64 : Shape := ⟨2, ![4096, 64]⟩
abbrev S64x160x1024 : Shape := ⟨3, ![64, 160, 1024]⟩
abbrev S4096x1024 : Shape := ⟨2, ![4096, 1024]⟩
abbrev S4096x2 : Shape := ⟨2, ![4096, 2]⟩
abbrev S64x160x512 : Shape := ⟨3, ![64, 160, 512]⟩
abbrev S1x2048x1024 : Shape := ⟨3, ![1, 2048, 1024]⟩

abbrev nBuf : Space → Nat
  | .hbm => 187
  | .vmem => 0
  | .smem => 0
  | _ => 0

abbrev hbmTy0_0 (i : Nat) : BufTy := match i % 128 with
  | 0 => ⟨S2048x1024, .f32⟩
  | 1 => ⟨S2048x64, .f32⟩
  | 2 => ⟨S64, .f32⟩
  | 3 => ⟨S64x512x1024, .f32⟩
  | 4 => ⟨S64x512x1024, .f32⟩
  | 5 => ⟨S64x1024x512, .f32⟩
  | 6 => ⟨S2048x2, .f32⟩
  | 7 => ⟨S2048x2, .i32⟩
  | 8 => ⟨S_, .f32⟩
  | 9 => ⟨S2048, .f32⟩
  | 10 => ⟨S_, .f32⟩
  | 11 => ⟨S2048, .f32⟩
  | 12 => ⟨S2048, .f32⟩
  | 13 => ⟨S2048x1, .f32⟩
  | 14 => ⟨S2048x64, .f32⟩
  | 15 => ⟨S2048x64, .f32⟩
  | 16 => ⟨S2048x64, .f32⟩
  | 17 => ⟨S_, .f32⟩
  | 18 => ⟨S2048, .f32⟩
  | 19 => ⟨S2048x1, .f32⟩
  | 20 => ⟨S2048x64, .f32⟩
  | 21 => ⟨S2048x64, .f32⟩
  | 22 => ⟨S2048x2x1, .i32⟩
  | 23 => ⟨S1x1x64, .i32⟩
  | 24 => ⟨S2048x2x64, .i32⟩
  | 25 => ⟨S2048x2x64, .i32⟩
  | 26 => ⟨S2048x2x64, .i1⟩
  | 27 => ⟨S2048x2x64, .f32⟩
  | 28 => ⟨S_, .f32⟩
  | 29 => ⟨S2048x64, .f32⟩
  | 30 => ⟨S2048x64, .f32⟩
  | 31 => ⟨S_, .f32⟩
  | 32 => ⟨S2048, .f32⟩
  | 33 => ⟨S2048x1, .f32⟩
  | 34 => ⟨S_, .f32⟩
  | 35 => ⟨S2048x1, .f32⟩
  | 36 => ⟨S2048x1, .i1⟩
  | 37 => ⟨S_, .f32⟩
  | 38 => ⟨S2048x1, .f32⟩
  | 39 => ⟨S2048x1, .f32⟩
  | 40 => ⟨S2048x64, .f32⟩
  | 41 => ⟨S2048x64, .f32⟩
  | 42 => ⟨S_, .i32⟩
  | 43 => ⟨S2048x2, .i32⟩
  | 44 => ⟨S2048x2, .i1⟩
  | 45 => ⟨S_, .i32⟩
  | 46 => ⟨S2048x2, .i32⟩
  | 47 => ⟨S2048x2, .i32⟩
  | 48 => ⟨S2048x2, .i32⟩
  | 49 => ⟨S2048x2x1, .i32⟩
  | 50 => ⟨S1, .i32⟩
  | 51 => ⟨S_, .i32⟩
  | 52 => ⟨S2048x2x1, .i32⟩
  | 53 => ⟨S2048x2x1, .i1⟩
  | 54 => ⟨S1x1x1, .i32⟩
  | 55 => ⟨S2048x2x1, .i32⟩
  | 56 => ⟨S2048x2x1, .i1⟩
  | 57 => ⟨S2048x2x1, .i1⟩
  | 58 => ⟨S_, .i1⟩
  | 59 => ⟨S2048x2, .i1⟩
  | 60 => ⟨S2048x2, .f32⟩
  | 61 => ⟨S_, .f32⟩
  | 62 => ⟨S2048x2, .f32⟩
  | 63 => ⟨S2048x2, .f32⟩
  | 64 => ⟨S_, .i32⟩
  | 65 => ⟨S2048x2, .i32⟩
  | 66 => ⟨S2048x2, .i1⟩
  | 67 => ⟨S_, .i32⟩
  | 68 => ⟨S2048x2, .i32⟩
  | 69 => ⟨S2048x2, .i32⟩
  | 70 => ⟨S2048x2, .i32⟩
  | 71 => ⟨S2048x2x1, .i32⟩
  | 72 => ⟨S2048x2, .f32⟩
  | 73 => ⟨S2048x2, .f32⟩
  | 74 => ⟨S2x2048, .i32⟩
  | 75 => ⟨S4096, .i32⟩
  | 76 => ⟨S2x2048, .f32⟩
  | 77 => ⟨S4096, .f32⟩
  | 78 => ⟨S2048, .i32⟩
  | 79 => ⟨S1x2048, .i32⟩
  | 80 => ⟨S2x2048, .i32⟩
  | 81 => ⟨S4096, .i32⟩
  | 82 => ⟨S4096x1, .i32⟩
  | 83 => ⟨S1x64, .i32⟩
  | 84 => ⟨S4096x64, .i32⟩
  | 85 => ⟨S4096x64, .i32⟩
  | 86 => ⟨S4096x64, .i1⟩
  | 87 => ⟨S4096x64, .i32⟩
  | 88 => ⟨S_, .i32⟩
  | 89 => ⟨S_, .i32⟩
  | 90 => ⟨S4096x64, .i32⟩
  | 91 => ⟨S4096x64, .i32⟩
  | 92 => ⟨S4096x64, .i32⟩
  | 93 => ⟨S_, .i32⟩
  | 94 => ⟨S4096, .i32⟩
  | 95 => ⟨S_, .i32⟩
  | 96 => ⟨S4096, .i32⟩
  | 97 => ⟨S4096, .i1⟩
  | 98 => ⟨S4096, .f32⟩
  | 99 => ⟨S_, .i32⟩
  | 100 => ⟨S4096, .i32⟩
  | 101 => ⟨S4096, .i32⟩
  | 102 => ⟨S_, .f32⟩
  | 103 => ⟨S64x160x1024, .f32⟩
  | 104 => ⟨S_, .i32⟩
  | 105 => ⟨S4096, .i32⟩
  | 106 => ⟨S4096, .i1⟩
  | 107 => ⟨S_, .i32⟩
  | 108 => ⟨S4096, .i32⟩
  | 109 => ⟨S4096, .i32⟩
  | 110 => ⟨S4096, .i32⟩
  | 111 => ⟨S4096x1, .i32⟩
  | 112 => ⟨S4096x1024, .f32⟩
  | 113 => ⟨S4096x1, .f32⟩
  | 114 => ⟨S4096x1024, .f32⟩
  | 115 => ⟨S4096x1024, .f32⟩
  | 116 => ⟨S_, .i32⟩
  | 117 => ⟨S4096, .i32⟩
  | 118 => ⟨S4096, .i1⟩
  | 119 => ⟨S_, .i32⟩
  | 120 => ⟨S4096, .i32⟩
  | 121 => ⟨S4096, .i32⟩
  | 122 => ⟨S4096, .i32⟩
  | 123 => ⟨S_, .i32⟩
  | 124 => ⟨S4096, .i32⟩
  | 125 => ⟨S4096, .i1⟩
  | 126 => ⟨S_, .i32⟩
  | 127 => ⟨S4096, .i32⟩
  | _ => ⟨S2048x1024, .f32⟩

abbrev hbmTy0_1 (i : Nat) : BufTy := match i % 128 with
  | 0 => ⟨S4096, .i32⟩
  | 1 => ⟨S4096, .i32⟩
  | 2 => ⟨S4096x1, .i32⟩
  | 3 => ⟨S4096x1, .i32⟩
  | 4 => ⟨S4096x2, .i32⟩
  | 5 => ⟨S64x160x1024, .f32⟩
  | 6 => ⟨S64x160x512, .f32⟩
  | 7 => ⟨S64x160x512, .f32⟩
  | 8 => ⟨S_, .f32⟩
  | 9 => ⟨S64x160x512, .f32⟩
  | 10 => ⟨S64x160x512, .f32⟩
  | 11 => ⟨S_, .f32⟩
  | 12 => ⟨S_, .f32⟩
  | 13 => ⟨S_, .f32⟩
  | 14 => ⟨S64x160x512, .f32⟩
  | 15 => ⟨S64x160x512, .f32⟩
  | 16 => ⟨S64x160x512, .f32⟩
  | 17 => ⟨S_, .f32⟩
  | 18 => ⟨S64x160x512, .f32⟩
  | 19 => ⟨S64x160x512, .f32⟩
  | 20 => ⟨S64x160x512, .f32⟩
  | 21 => ⟨S64x160x512, .f32⟩
  | 22 => ⟨S64x160x1024, .f32⟩
  | 23 => ⟨S_, .i32⟩
  | 24 => ⟨S4096, .i32⟩
  | 25 => ⟨S4096, .i1⟩
  | 26 => ⟨S_, .i32⟩
  | 27 => ⟨S4096, .i32⟩
  | 28 => ⟨S4096, .i32⟩
  | 29 => ⟨S4096, .i32⟩
  | 30 => ⟨S_, .i32⟩
  | 31 => ⟨S4096, .i32⟩
  | 32 => ⟨S4096, .i1⟩
  | 33 => ⟨S_, .i32⟩
  | 34 => ⟨S4096, .i32⟩
  | 35 => ⟨S4096, .i32⟩
  | 36 => ⟨S4096, .i32⟩
  | 37 => ⟨S4096x1, .i32⟩
  | 38 => ⟨S4096x1, .i32⟩
  | 39 => ⟨S4096x2, .i32⟩
  | 40 => ⟨S4096x1024, .f32⟩
  | 41 => ⟨S4096x1, .f32⟩
  | 42 => ⟨S4096x1024, .f32⟩
  | 43 => ⟨S4096x1024, .f32⟩
  | 44 => ⟨S_, .f32⟩
  | 45 => ⟨S2048x1024, .f32⟩
  | 46 => ⟨S4096x1, .f32⟩
  | 47 => ⟨S4096x1024, .f32⟩
  | 48 => ⟨S4096x1024, .f32⟩
  | 49 => ⟨S_, .i32⟩
  | 50 => ⟨S4096, .i32⟩
  | 51 => ⟨S4096, .i1⟩
  | 52 => ⟨S_, .i32⟩
  | 53 => ⟨S4096, .i32⟩
  | 54 => ⟨S4096, .i32⟩
  | 55 => ⟨S4096, .i32⟩
  | 56 => ⟨S4096x1, .i32⟩
  | 57 => ⟨S2048x1024, .f32⟩
  | 58 => ⟨S1x2048x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_values : Ref sig .tc := ⟨.hbm, 6, rfl⟩
abbrev main_indices : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_cst_5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_call2_c : Ref sig .tc := ⟨.hbm, 42, rfl⟩
abbrev main_call2_v0 : Ref sig .tc := ⟨.hbm, 43, rfl⟩
abbrev main_call2_v1 : Ref sig .tc := ⟨.hbm, 44, rfl⟩
abbrev main_call2_c_0 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_c_1 : Ref sig .tc := ⟨.hbm, 50, rfl⟩
abbrev main_call2_c_2 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_c_3 : Ref sig .tc := ⟨.hbm, 58, rfl⟩
abbrev main_call2_v12 : Ref sig .tc := ⟨.hbm, 59, rfl⟩
abbrev main_call2_v13 : Ref sig .tc := ⟨.hbm, 60, rfl⟩
abbrev main_call2_cst : Ref sig .tc := ⟨.hbm, 61, rfl⟩
abbrev main_call2_v14 : Ref sig .tc := ⟨.hbm, 62, rfl⟩
abbrev main_v22 : Ref sig .tc := ⟨.hbm, 63, rfl⟩
abbrev main_c : Ref sig .tc := ⟨.hbm, 64, rfl⟩
abbrev main_v23 : Ref sig .tc := ⟨.hbm, 65, rfl⟩
abbrev main_v24 : Ref sig .tc := ⟨.hbm, 66, rfl⟩
abbrev main_c_6 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_v39 : Ref sig .tc := ⟨.hbm, 87, rfl⟩
abbrev main_call4_call0_c : Ref sig .tc := ⟨.hbm, 88, rfl⟩
abbrev main_call4_call0_v0 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_c_7 : Ref sig .tc := ⟨.hbm, 93, rfl⟩
abbrev main_v43 : Ref sig .tc := ⟨.hbm, 94, rfl⟩
abbrev main_c_8 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_c_9 : Ref sig .tc := ⟨.hbm, 99, rfl⟩
abbrev main_v47 : Ref sig .tc := ⟨.hbm, 100, rfl⟩
abbrev main_v48 : Ref sig .tc := ⟨.hbm, 101, rfl⟩
abbrev main_cst_10 : Ref sig .tc := ⟨.hbm, 102, rfl⟩
abbrev main_v49 : Ref sig .tc := ⟨.hbm, 103, rfl⟩
abbrev main_c_11 : Ref sig .tc := ⟨.hbm, 104, rfl⟩
abbrev main_v50 : Ref sig .tc := ⟨.hbm, 105, rfl⟩
abbrev main_v51 : Ref sig .tc := ⟨.hbm, 106, rfl⟩
abbrev main_c_12 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_c_13 : Ref sig .tc := ⟨.hbm, 116, rfl⟩
abbrev main_v60 : Ref sig .tc := ⟨.hbm, 117, rfl⟩
abbrev main_v61 : Ref sig .tc := ⟨.hbm, 118, rfl⟩
abbrev main_c_14 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_c_15 : Ref sig .tc := ⟨.hbm, 123, rfl⟩
abbrev main_v65 : Ref sig .tc := ⟨.hbm, 124, rfl⟩
abbrev main_v66 : Ref sig .tc := ⟨.hbm, 125, rfl⟩
abbrev main_c_16 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_cst_17 : Ref sig .tc := ⟨.hbm, 136, rfl⟩
abbrev main_v76 : Ref sig .tc := ⟨.hbm, 137, rfl⟩
abbrev main_v77 : Ref sig .tc := ⟨.hbm, 138, rfl⟩
abbrev main_cst_18 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_cst_19 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_c_20 : Ref sig .tc := ⟨.hbm, 151, rfl⟩
abbrev main_v88 : Ref sig .tc := ⟨.hbm, 152, rfl⟩
abbrev main_v89 : Ref sig .tc := ⟨.hbm, 153, rfl⟩
abbrev main_c_21 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_c_22 : Ref sig .tc := ⟨.hbm, 158, rfl⟩
abbrev main_v93 : Ref sig .tc := ⟨.hbm, 159, rfl⟩
abbrev main_v94 : Ref sig .tc := ⟨.hbm, 160, rfl⟩
abbrev main_c_23 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_cst_24 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_c_25 : Ref sig .tc := ⟨.hbm, 177, rfl⟩
abbrev main_v109 : Ref sig .tc := ⟨.hbm, 178, rfl⟩
abbrev main_v110 : Ref sig .tc := ⟨.hbm, 179, rfl⟩
abbrev main_c_26 : Ref sig .tc := ⟨.hbm, 180, rfl⟩
abbrev main_v111 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩

abbrev nD : Nat := 1
abbrev τ : Topo := Topo.v7x

variable {F : FTy → Type} [FloatOps F]
-- ==== Proof.KernelBody.lean ====
/- One grid point of the kernel as values: what the two cases of the body leave in the result block and in the three scratch arrays,
   written with the body's own store payloads. -/
module

public import proofs.«01_k».proof.Proof.Gen.KernelIdeal.Value
public import Idealize.ShloMosaic.Lib.Pipeline.Value

@[expose] public section

set_option maxRecDepth 16384

noncomputable section

open Idealize.ShloMosaic Idealize.ShloMosaic.TcCoe

namespace Cert.KernelIdeal.Body

open Cert.KernelIdeal Cert.KernelIdeal.Gen

variable {F : FTy → Type} [FloatOps F] [Named F]

/-- The number of the first of the two experts of a grid point, as the body computes it. -/
def firstExpert (i : grid0.Coords) : BitVec 32 :=
  Scalar.muli (Scalar.addi (Scalar.muli (BitVec.ofNat 32 (i 0).val) 32#32) (BitVec.ofNat 32 (i 1).val)) 2#32

/-- What a grid point adds to the result: the two slot rows, the two slot columns, the two weight columns, the tokens and the two
    experts' three matrices go in. -/
def contribution (i : grid0.Coords) (r0 r1 : Vec F S1x2048 .i32) (c0 c1 : Vec F S2048x1 .i32) (w0 w1 : Vec F S2048x1 .f32)
    (x : Vec F S2048x1024 .bf16) (p0 p1 q0 q1 : Vec F S1x512x1024 .f32) (o0 o1 : Vec F S1x1024x512 .f32) : FVec F S2048x1024 .f32 :=
  k0_pay1 c0 c1 w0 w1 (firstExpert i) (k0_pay37 (k0_pay35 i r0 r1 x) (k0_pay36 p0) q0 o0) (k0_pay38 o1) (k0_pay39 (k0_pay34 i r0 r1 x) p1 q1)

/-- The slots of the tokens' first choices, as the body computes them. -/
def slots0 (l : Vec F S2048x64 .f32) : IVec S2048 32 :=
  k0_pay25 (k0_pay5 l) (k0_pay13 l) (k0_pay20 (k0_pay13 l) (k0_pay18 (k0_pay13 l)) k0_pay19)

/-- The slots of the tokens' second choices, as the body computes them. -/
def slots1 (l : Vec F S2048x64 .f32) : IVec S2048 32 :=
  k0_pay26 (k0_pay8 l) (k0_pay14 l) (k0_pay21 (k0_pay13 l)) (k0_pay22 (k0_pay14 l)) k0_pay23 (k0_pay24 (k0_pay14 l))

/-- The weights of the tokens' first choices, as a column. -/
def weights0 (s : Vec F S1x64 .f32) (l : Vec F S2048x64 .f32) : FVec F S2048x1 .f32 :=
  k0_pay32 (k0_pay31 (k0_pay10 l) (k0_pay16 (k0_pay15 l s)))

/-- The weights of the tokens' second choices, as a column. -/
def weights1 (s : Vec F S1x64 .f32) (l : Vec F S2048x64 .f32) : FVec F S2048x1 .f32 :=
  k0_pay33 (k0_pay11 l) (k0_pay17 (k0_pay12 s) (k0_pay14 l))

/-- A list of tokens' slots laid out as a row. -/
def asRow (v : IVec S2048 32) : IVec S1x2048 32 := shapeCast S1x2048 v shapeCasts_S2048_S1x2048

/-- A list of tokens' slots laid out as a column. -/
def asCol (v : IVec S2048 32) : IVec S2048x1 32 :=
  shapeCast S2048x1 (shapeCast S2048x1 v shapeCasts_S2048_S2048x1) shapeCasts_S2048x1_S2048x1

/-- A row of a two-row array. -/
def rowOf {e : EltTy} (a : ℕ) (h : ∀ x, (![a, 0] : Fin 2 → ℕ) x + S1x2048.size x ≤ S2x2048.size x) (v : Vec F S2x2048 e) : Vec F S1x2048 e :=
  View.ld (Val := Elt F) (e' := e) v (Rect.unit (s := S2x2048) ![a, 0] S1x2048.size h)

/-- A column of a two-column array. -/
def colOf {e : EltTy} (a : ℕ) (h : ∀ x, (![0, a] : Fin 2 → ℕ) x + S2048x1.size x ≤ S2048x2.size x) (v : Vec F S2048x2 e) : Vec F S2048x1 e :=
  View.ld (Val := Elt F) (e' := e) v (Rect.unit (s := S2048x2) ![0, a] S2048x1.size h)

/-- One expert's plane of a block of two experts' up projections. -/
def planeOf (a : ℕ) (h : ∀ x, (![a, 0, 0] : Fin 3 → ℕ) x + S1x512x1024.size x ≤ S2x512x1024.size x) (v : Vec F S2x512x1024 .f32) :
    Vec F S1x512x1024 .f32 := View.ld (Val := Elt F) (e' := .f32) v (Rect.unit (s := S2x512x1024) ![a, 0, 0] S1x512x1024.size h)

/-- One expert's plane of a block of two experts' down projections. -/
def downOf (a : ℕ) (h : ∀ x, (![a, 0, 0] : Fin 3 → ℕ) x + S1x1024x512.size x ≤ S2x1024x512.size x) (v : Vec F S2x1024x512 .f32) :
    Vec F S1x1024x512 .f32 := View.ld (Val := Elt F) (e' := .f32) v (Rect.unit (s := S2x1024x512) ![a, 0, 0] S1x1024x512.size h)

/-- What a grid point adds to the result, from whole blocks. -/
def added (i : grid0.Coords) (r0 r1 : Vec F S1x2048 .i32) (c0 c1 : Vec F S2048x1 .i32) (w0 w1 : Vec F S2048x1 .f32)
    (x : Vec F S2048x1024 .bf16) (p q : Vec F S2x512x1024 .f32) (o : Vec F S2x1024x512 .f32) : FVec F S2048x1024 .f32 :=
  contribution i r0 r1 c0 c1 w0 w1 x (planeOf 0 inb_S2x512x1024_S1x512x1024_0_0_0 p) (planeOf 1 inb_S2x512x1024_S1x512x1024_1_0_0 p)
    (planeOf 0 inb_S2x512x1024_S1x512x1024_0_0_0 q) (planeOf 1 inb_S2x512x1024_S1x512x1024_1_0_0 q)
    (downOf 0 inb_S2x1024x512_S1x1024x512_0_0_0 o) (downOf 1 inb_S2x1024x512_S1x1024x512_1_0_0 o)

theorem zeros2 : (![0, 0] : Fin 2 → ℕ) = fun _ => 0 := funext fun a => by match a with | ⟨0, _⟩ => rfl | ⟨1, _⟩ => rfl
theorem zeros3 : (![0, 0, 0] : Fin 3 → ℕ) = fun _ => 0 := funext fun a => by match a with | ⟨0, _⟩ => rfl | ⟨1, _⟩ => rfl | ⟨2, _⟩ => rfl

/-- The two rows' rectangles share no place. -/
theorem rows_disjoint : Disjoint (Rect.unit (s := S2x2048) ![1, 0] S1x2048.size inb_S2x2048_S1x2048_1_0).set
    (Rect.unit (s := S2x2048) ![0, 0] S1x2048.size inb_S2x2048_S1x2048_0_0).toLoadRect.set := by
  rw [Finset.disjoint_left]
  intro y h1 h0
  have h0 : y ∈ (Rect.unit (s := S2x2048) ![0, 0] S1x2048.size inb_S2x2048_S1x2048_0_0).set := h0
  have a := (Rect.mem_set_unit.mp h1 0).1
  have b := (Rect.mem_set_unit.mp h0 0).2
  change 1 ≤ (y 0).val at a
  change (y 0).val < 0 + 1 at b
  omega

/-- The two columns' rectangles share no place. -/
theorem cols_disjoint : Disjoint (Rect.unit (s := S2048x2) ![0, 1] S2048x1.size inb_S2048x2_S2048x1_0_1).set
    (Rect.unit (s := S2048x2) ![0, 0] S2048x1.size inb_S2048x2_S2048x1_0_0).toLoadRect.set := by
  rw [Finset.disjoint_left]
  intro y h1 h0
  have h0 : y ∈ (Rect.unit (s := S2048x2) ![0, 0] S2048x1.size inb_S2048x2_S2048x1_0_0).set := h0
  have a := (Rect.mem_set_unit.mp h1 1).1
  have b := (Rect.mem_set_unit.mp h0 1).2
  change 1 ≤ (y 1).val at a
  change (y 1).val < 0 + 1 at b
  omega

/-- The stores of two rows, the second row's last. -/
abbrev twoRows {e : EltTy} (a b : Vec F S1x2048 e) : List (View.Piece (Elt F) S2x2048 e) :=
  [⟨Rect.unit (s := S2x2048) ![1, 0] S1x2048.size inb_S2x2048_S1x2048_1_0, b⟩,
    ⟨Rect.unit (s := S2x2048) ![0, 0] S1x2048.size inb_S2x2048_S1x2048_0_0, a⟩]

/-- The stores of two columns, the second column's last. -/
abbrev twoCols {e : EltTy} (a b : Vec F S2048x1 e) : List (View.Piece (Elt F) S2048x2 e) :=
  [⟨Rect.unit (s := S2048x2) ![0, 1] S2048x1.size inb_S2048x2_S2048x1_0_1, b⟩,
    ⟨Rect.unit (s := S2048x2) ![0, 0] S2048x1.size inb_S2048x2_S2048x1_0_0, a⟩]

/-- What the last store put into its rectangle is read back from it. -/
theorem ld_canon_last {Val : EltTy → Type} [∀ e, Nonempty (Val e)] {s : Shape} {e : EltTy} (r : Rect s) (w : r.shape.Idx → Val e)
    (L : List (View.Piece Val s e)) : View.ld (Val := Val) (e' := e) (View.canon (⟨r, w⟩ :: L)) r = w :=
  funext fun j => View.canon_cons_emb r w L j

/-- What the earlier of two stores into disjoint rectangles put into its own is read back from it. -/
theorem ld_canon_earlier {Val : EltTy → Type} [∀ e, Nonempty (Val e)] {s : Shape} {e : EltTy} (r r' : Rect s) (w : r.shape.Idx → Val e)
    (w' : r'.shape.Idx → Val e) (h : Disjoint r.set r'.toLoadRect.set) :
    View.ld (Val := Val) (e' := e) (View.canon ([⟨r, w⟩, ⟨r', w'⟩] : List (View.Piece Val s e))) r' = w' :=
  funext fun j => (View.canon_cons_of_not_mem (⟨r, w⟩ : View.Piece Val s e) [⟨r', w'⟩]
    (Finset.disjoint_right.mp h (r'.toLoadRect.idx_mem j))).trans (View.canon_cons_emb r' w' [] j)

section TwoPieces

variable {κ : Kind} {sp : Space} {e : EltTy}

theorem readCov_row1 (v : View sig κ sp S2x2048 e) (a b : Vec F S1x2048 e) :
    v.readCov (Val := Elt F) (twoRows a b) (Rect.unit (s := S2x2048) ![1, 0] S1x2048.size inb_S2x2048_S1x2048_1_0).toLoadRect = b := by
  exact View.readCov_cons_toLoadRect (Val := Elt F) v (Rect.unit (s := S2x2048) ![1, 0] S1x2048.size inb_S2x2048_S1x2048_1_0) b _

theorem readCov_row0 (v : View sig κ sp S2x2048 e) (a b : Vec F S1x2048 e) :
    v.readCov (Val := Elt F) (twoRows a b) (Rect.unit (s := S2x2048) ![0, 0] S1x2048.size inb_S2x2048_S1x2048_0_0).toLoadRect = a := by
  refine (View.readCov_cons_of_disjoint (Val := Elt F) v (⟨(Rect.unit (s := S2x2048) ![1, 0] S1x2048.size inb_S2x2048_S1x2048_1_0), b⟩ : View.Piece (Elt F) S2x2048 e)
    [⟨(Rect.unit (s := S2x2048) ![0, 0] S1x2048.size inb_S2x2048_S1x2048_0_0), a⟩]
    (Rect.unit (s := S2x2048) ![0, 0] S1x2048.size inb_S2x2048_S1x2048_0_0).toLoadRect rows_disjoint).trans ?_
  exact View.readCov_cons_toLoadRect (Val := Elt F) v (Rect.unit (s := S2x2048) ![0, 0] S1x2048.size inb_S2x2048_S1x2048_0_0) a _

theorem readCov_col1 (v : View sig κ sp S2048x2 e) (a b : Vec F S2048x1 e) :
    v.readCov (Val := Elt F) (twoCols a b) (Rect.unit (s := S2048x2) ![0, 1] S2048x1.size inb_S2048x2_S2048x1_0_1).toLoadRect = b := by
  exact View.readCov_cons_toLoadRect (Val := Elt F) v (Rect.unit (s := S2048x2) ![0, 1] S2048x1.size inb_S2048x2_S2048x1_0_1) b _

theorem readCov_col0 (v : View sig κ sp S2048x2 e) (a b : Vec F S2048x1 e) :
    v.readCov (Val := Elt F) (twoCols a b) (Rect.unit (s := S2048x2) ![0, 0] S2048x1.size inb_S2048x2_S2048x1_0_0).toLoadRect = a := by
  refine (View.readCov_cons_of_disjoint (Val := Elt F) v (⟨(Rect.unit (s := S2048x2) ![0, 1] S2048x1.size inb_S2048x2_S2048x1_0_1), b⟩ : View.Piece (Elt F) S2048x2 e)
    [⟨(Rect.unit (s := S2048x2) ![0, 0] S2048x1.size inb_S2048x2_S2048x1_0_0), a⟩]
    (Rect.unit (s := S2048x2) ![0, 0] S2048x1.size inb_S2048x2_S2048x1_0_0).toLoadRect cols_disjoint).trans ?_
  exact View.readCov_cons_toLoadRect (Val := Elt F) v (Rect.unit (s := S2048x2) ![0, 0] S2048x1.size inb_S2048x2_S2048x1_0_0) a _

theorem rowOf0_canon (a b : Vec F S1x2048 e) : rowOf 0 inb_S2x2048_S1x2048_0_0 (View.canon (Val := Elt F) (s := S2x2048) (e := e) (twoRows (F := F) a b)) = a := by
  have h := ld_canon_earlier (Val := Elt F) (Rect.unit (s := S2x2048) ![1, 0] S1x2048.size inb_S2x2048_S1x2048_1_0)
    (Rect.unit (s := S2x2048) ![0, 0] S1x2048.size inb_S2x2048_S1x2048_0_0) b a rows_disjoint
  unfold rowOf
  exact h

theorem rowOf1_canon (a b : Vec F S1x2048 e) : rowOf 1 inb_S2x2048_S1x2048_1_0 (View.canon (Val := Elt F) (s := S2x2048) (e := e) (twoRows (F := F) a b)) = b := by
  have h := ld_canon_last (Val := Elt F) (Rect.unit (s := S2x2048) ![1, 0] S1x2048.size inb_S2x2048_S1x2048_1_0) b
    [⟨(Rect.unit (s := S2x2048) ![0, 0] S1x2048.size inb_S2x2048_S1x2048_0_0), a⟩]
  unfold rowOf
  exact h

theorem colOf0_canon (a b : Vec F S2048x1 e) : colOf 0 inb_S2048x2_S2048x1_0_0 (View.canon (Val := Elt F) (s := S2048x2) (e := e) (twoCols (F := F) a b)) = a := by
  have h := ld_canon_earlier (Val := Elt F) (Rect.unit (s := S2048x2) ![0, 1] S2048x1.size inb_S2048x2_S2048x1_0_1)
    (Rect.unit (s := S2048x2) ![0, 0] S2048x1.size inb_S2048x2_S2048x1_0_0) b a cols_disjoint
  unfold colOf
  exact h

theorem colOf1_canon (a b : Vec F S2048x1 e) : colOf 1 inb_S2048x2_S2048x1_0_1 (View.canon (Val := Elt F) (s := S2048x2) (e := e) (twoCols (F := F) a b)) = b := by
  have h := ld_canon_last (Val := Elt F) (Rect.unit (s := S2048x2) ![0, 1] S2048x1.size inb_S2048x2_S2048x1_0_1) b
    [⟨(Rect.unit (s := S2048x2) ![0, 0] S2048x1.size inb_S2048x2_S2048x1_0_0), a⟩]
  unfold colOf
  exact h

end TwoPieces

section Cases

variable (c : Dev nD) (i : grid0.Coords)
  (arg2 : Memref sig .tc .vmem S1x64 .f32) (harg2 : arg2.IsWhole)
  (arg3 : Memref sig .tc .vmem S2048x64 .f32) (harg3 : arg3.IsWhole)
  (arg4 : Memref sig .tc .vmem S2048x1024 .bf16) (harg4 : arg4.IsWhole)
  (arg5 : Memref sig .tc .vmem S2x512x1024 .f32) (harg5 : arg5.IsWhole)
  (arg6 : Memref sig .tc .vmem S2x512x1024 .f32) (harg6 : arg6.IsWhole)
  (arg7 : Memref sig .tc .vmem S2x1024x512 .f32) (harg7 : arg7.IsWhole)
  (arg8 : Memref sig .tc .vmem S1x2048x1024 .f32) (harg8 : arg8.IsWhole)
  (arg9 : Memref sig .tc .vmem S2x2048 .i32) (harg9 : arg9.IsWhole)
  (arg10 : Memref sig .tc .vmem S2048x2 .i32) (harg10 : arg10.IsWhole)
  (arg11 : Memref sig .tc .vmem S2048x2 .f32) (harg11 : arg11.IsWhole)
  (x0 : Vec F S1x64 .f32) (x1 : Vec F S2048x64 .f32) (x2 : Vec F S2048x1024 .bf16) (x3 x4 : Vec F S2x512x1024 .f32) (x5 : Vec F S2x1024x512 .f32)

/-- A later grid point leaves the block it found plus what the point adds. -/
theorem out_B (hc0 : ¬cond0_0 i) (hc1 : ¬cond0_1 i) (hc2 : cond0_2 i) (xo : Vec F S1x2048x1024 .f32) (xs0 : Vec F S2x2048 .i32)
    (xs1 : Vec F S2048x2 .i32) (xs2 : Vec F S2048x2 .f32) :
    out0_B_6 c i arg2 harg2 arg3 harg3 arg4 harg4 arg5 harg5 arg6 harg6 arg7 harg7 arg8 harg8 arg9 harg9 arg10 harg10 arg11 harg11
        hc0 hc1 hc2 x0 x1 x2 x3 x4 x5 xo xs0 xs1 xs2
      = shapeCast S1x2048x1024 (addf (shapeCast S2048x1024 xo shapeCasts_S1x2048x1024_S2048x1024)
          (added i (rowOf 0 inb_S2x2048_S1x2048_0_0 xs0) (rowOf 1 inb_S2x2048_S1x2048_1_0 xs0) (colOf 0 inb_S2048x2_S2048x1_0_0 xs1)
            (colOf 1 inb_S2048x2_S2048x1_0_1 xs1) (colOf 0 inb_S2048x2_S2048x1_0_0 xs2) (colOf 1 inb_S2048x2_S2048x1_0_1 xs2) x2 x3 x4 x5))
          shapeCasts_S2048x1024_S1x2048x1024 := by
  unfold out0_B_6
  rw [View.read_writes_junk_eq_canon]
  unfold kernelRun0_B
  dsimp only
  rw [View.canon_unit_zero zeros3]
  have hx : View.readAt (Elt F) arg4.view (Rect.unit (s := S2048x1024) ![0, 0] S2048x1024.size inb_S2048x1024_S2048x1024_0_0).toLoadRect
      (harg4.unread x2) = x2 := by rw [View.readAt_eq_ld, harg4.read_unread, View.ld_unit_zero zeros2]
  have ho : View.readAt (Elt F) arg8.view
      (Rect.unit (s := S1x2048x1024) ![0, 0, 0] S1x2048x1024.size inb_S1x2048x1024_S1x2048x1024_0_0_0).toLoadRect
      (harg8.unread xo) = xo := by rw [View.readAt_eq_ld, harg8.read_unread, View.ld_unit_zero zeros3]
  show shapeCast S1x2048x1024 (addf (shapeCast S2048x1024 (View.readAt (Elt F) arg8.view
      (Rect.unit (s := S1x2048x1024) ![0, 0, 0] S1x2048x1024.size inb_S1x2048x1024_S1x2048x1024_0_0_0).toLoadRect
      (harg8.unread xo)) shapeCasts_S1x2048x1024_S2048x1024)
    (added i (rowOf 0 inb_S2x2048_S1x2048_0_0 (arg9.view.read (Elt F) (harg9.unread xs0)))
      (rowOf 1 inb_S2x2048_S1x2048_1_0 (arg9.view.read (Elt F) (harg9.unread xs0)))
      (colOf 0 inb_S2048x2_S2048x1_0_0 (arg10.view.read (Elt F) (harg10.unread xs1)))
      (colOf 1 inb_S2048x2_S2048x1_0_1 (arg10.view.read (Elt F) (harg10.unread xs1)))
      (colOf 0 inb_S2048x2_S2048x1_0_0 (arg11.view.read (Elt F) (harg11.unread xs2)))
      (colOf 1 inb_S2048x2_S2048x1_0_1 (arg11.view.read (Elt F) (harg11.unread xs2)))
      (View.readAt (Elt F) arg4.view (Rect.unit (s := S2048x1024) ![0, 0] S2048x1024.size inb_S2048x1024_S2048x1024_0_0).toLoadRect
        (harg4.unread x2))
      (arg5.view.read (Elt F) (harg5.unread x3)) (arg6.view.read (Elt F) (harg6.unread x4)) (arg7.view.read (Elt F) (harg7.unread x5))))
    shapeCasts_S2048x1024_S1x2048x1024 = _
  rw [hx, ho, harg9.read_unread, harg10.read_unread, harg11.read_unread, harg5.read_unread, harg6.read_unread, harg7.read_unread]

/-- The first grid point leaves what the point adds, from the slots and weights that it has just stored. -/
theorem out_A (hc0 : cond0_0 i) (hc1 : cond0_1 i) (hc2 : ¬cond0_2 i) :
    out0_A_6 c i arg2 harg2 arg3 harg3 arg4 harg4 arg5 harg5 arg6 harg6 arg7 harg7 arg8 harg8 arg9 harg9 arg10 harg10 arg11 harg11
        hc0 hc1 hc2 x0 x1 x2 x3 x4 x5
      = shapeCast S1x2048x1024 (added i (asRow (slots0 x1)) (asRow (slots1 x1)) (asCol (slots0 x1)) (asCol (slots1 x1))
          (weights0 x0 x1) (weights1 x0 x1) x2 x3 x4 x5) shapeCasts_S2048x1024_S1x2048x1024 := by
  unfold out0_A_6
  rw [View.read_writes_junk_eq_canon]
  unfold kernelRun0_A
  dsimp only
  rw [View.canon_unit_zero zeros3]
  have hs : View.readAt (Elt F) arg2.view (Rect.unit (s := S1x64) ![0, 0] S1x64.size inb_S1x64_S1x64_0_0).toLoadRect
      (harg2.unread x0) = x0 := by rw [View.readAt_eq_ld, harg2.read_unread, View.ld_unit_zero zeros2]
  have hl : View.readAt (Elt F) arg3.view (Rect.unit (s := S2048x64) ![0, 0] S2048x64.size inb_S2048x64_S2048x64_0_0).toLoadRect
      (harg3.unread x1) = x1 := by rw [View.readAt_eq_ld, harg3.read_unread, View.ld_unit_zero zeros2]
  have hx : View.readAt (Elt F) arg4.view (Rect.unit (s := S2048x1024) ![0, 0] S2048x1024.size inb_S2048x1024_S2048x1024_0_0).toLoadRect
      (harg4.unread x2) = x2 := by rw [View.readAt_eq_ld, harg4.read_unread, View.ld_unit_zero zeros2]
  show shapeCast S1x2048x1024
    (added i
      (arg9.view.readCov (twoRows (asRow (slots0 _)) (asRow (slots1 _)))
        (Rect.unit (s := S2x2048) ![0, 0] S1x2048.size inb_S2x2048_S1x2048_0_0).toLoadRect)
      (arg9.view.readCov (twoRows (asRow (slots0 _)) (asRow (slots1 _)))
        (Rect.unit (s := S2x2048) ![1, 0] S1x2048.size inb_S2x2048_S1x2048_1_0).toLoadRect)
      (arg10.view.readCov (twoCols (asCol (slots0 _)) (asCol (slots1 _)))
        (Rect.unit (s := S2048x2) ![0, 0] S2048x1.size inb_S2048x2_S2048x1_0_0).toLoadRect)
      (arg10.view.readCov (twoCols (asCol (slots0 _)) (asCol (slots1 _)))
        (Rect.unit (s := S2048x2) ![0, 1] S2048x1.size inb_S2048x2_S2048x1_0_1).toLoadRect)
      (arg11.view.readCov (twoCols (weights0 _ _) (weights1 _ _))
        (Rect.unit (s := S2048x2) ![0, 0] S2048x1.size inb_S2048x2_S2048x1_0_0).toLoadRect)
      (arg11.view.readCov (twoCols (weights0 _ _) (weights1 _ _))
        (Rect.unit (s := S2048x2) ![0, 1] S2048x1.size inb_S2048x2_S2048x1_0_1).toLoadRect)
      (View.readAt (Elt F) arg4.view (Rect.unit (s := S2048x1024) ![0, 0] S2048x1024.size inb_S2048x1024_S2048x1024_0_0).toLoadRect
        (harg4.unread x2))
      (arg5.view.read (Elt F) (harg5.unread x3)) (arg6.view.read (Elt F) (harg6.unread x4)) (arg7.view.read (Elt F) (harg7.unread x5)))
    shapeCasts_S2048x1024_S1x2048x1024 = _
  rw [hx, harg5.read_unread, harg6.read_unread, harg7.read_unread, readCov_row0, readCov_row1, readCov_col0, readCov_col1,
    readCov_col0, readCov_col1, hl, hs]

/-- What the first grid point leaves in the two-row scratch: the two slot rows. -/
theorem scratch_rows (hc0 : cond0_0 i) (hc1 : cond0_1 i) (hc2 : ¬cond0_2 i) :
    sout0_A_0 c i arg2 harg2 arg3 harg3 arg4 harg4 arg5 harg5 arg6 harg6 arg7 harg7 arg8 harg8 arg9 harg9 arg10 harg10 arg11 harg11
        hc0 hc1 hc2 x0 x1 x2 x3 x4 x5
      = View.canon (twoRows (asRow (slots0 x1)) (asRow (slots1 x1)) : List (View.Piece (Elt F) S2x2048 .i32)) := by
  unfold sout0_A_0
  rw [View.read_writes_junk_eq_canon]
  unfold kernelRun0_A
  dsimp only
  have hl : View.readAt (Elt F) arg3.view (Rect.unit (s := S2048x64) ![0, 0] S2048x64.size inb_S2048x64_S2048x64_0_0).toLoadRect
      (harg3.unread x1) = x1 := by rw [View.readAt_eq_ld, harg3.read_unread, View.ld_unit_zero zeros2]
  show View.canon (twoRows (asRow (slots0 (View.readAt (Elt F) arg3.view (Rect.unit (s := S2048x64) ![0, 0] S2048x64.size inb_S2048x64_S2048x64_0_0).toLoadRect
      (harg3.unread x1)))) (asRow (slots1 (View.readAt (Elt F) arg3.view (Rect.unit (s := S2048x64) ![0, 0] S2048x64.size inb_S2048x64_S2048x64_0_0).toLoadRect
      (harg3.unread x1)))) : List (View.Piece (Elt F) S2x2048 .i32)) = _
  rw [hl]

/-- What the first grid point leaves in the two-column scratch: the two slot columns. -/
theorem scratch_cols (hc0 : cond0_0 i) (hc1 : cond0_1 i) (hc2 : ¬cond0_2 i) :
    sout0_A_1 c i arg2 harg2 arg3 harg3 arg4 harg4 arg5 harg5 arg6 harg6 arg7 harg7 arg8 harg8 arg9 harg9 arg10 harg10 arg11 harg11
        hc0 hc1 hc2 x0 x1 x2 x3 x4 x5
      = View.canon (twoCols (asCol (slots0 x1)) (asCol (slots1 x1)) : List (View.Piece (Elt F) S2048x2 .i32)) := by
  unfold sout0_A_1
  rw [View.read_writes_junk_eq_canon]
  unfold kernelRun0_A
  dsimp only
  have hl : View.readAt (Elt F) arg3.view (Rect.unit (s := S2048x64) ![0, 0] S2048x64.size inb_S2048x64_S2048x64_0_0).toLoadRect
      (harg3.unread x1) = x1 := by rw [View.readAt_eq_ld, harg3.read_unread, View.ld_unit_zero zeros2]
  show View.canon (twoCols (asCol (slots0 (View.readAt (Elt F) arg3.view (Rect.unit (s := S2048x64) ![0, 0] S2048x64.size inb_S2048x64_S2048x64_0_0).toLoadRect
      (harg3.unread x1)))) (asCol (slots1 (View.readAt (Elt F) arg3.view (Rect.unit (s := S2048x64) ![0, 0] S2048x64.size inb_S2048x64_S2048x64_0_0).toLoadRect
      (harg3.unread x1)))) : List (View.Piece (Elt F) S2048x2 .i32)) = _
  rw [hl]

/-- What the first grid point leaves in the weight scratch: the two weight columns. -/
theorem scratch_weights (hc0 : cond0_0 i) (hc1 : cond0_1 i) (hc2 : ¬cond0_2 i) :
    sout0_A_2 c i arg2 harg2 arg3 harg3 arg4 harg4 arg5 harg5 arg6 harg6 arg7 harg7 arg8 harg8 arg9 harg9 arg10 harg10 arg11 harg11
        hc0 hc1 hc2 x0 x1 x2 x3 x4 x5
      = View.canon (twoCols (weights0 x0 x1) (weights1 x0 x1) : List (View.Piece (Elt F) S2048x2 .f32)) := by
  unfold sout0_A_2
  rw [View.read_writes_junk_eq_canon]
  unfold kernelRun0_A
  dsimp only
  have hs : View.readAt (Elt F) arg2.view (Rect.unit (s := S1x64) ![0, 0] S1x64.size inb_S1x64_S1x64_0_0).toLoadRect
      (harg2.unread x0) = x0 := by rw [View.readAt_eq_ld, harg2.read_unread, View.ld_unit_zero zeros2]
  have hl : View.readAt (Elt F) arg3.view (Rect.unit (s := S2048x64) ![0, 0] S2048x64.size inb_S2048x64_S2048x64_0_0).toLoadRect
      (harg3.unread x1) = x1 := by rw [View.readAt_eq_ld, harg3.read_unread, View.ld_unit_zero zeros2]
  show View.canon (twoCols (weights0 (View.readAt (Elt F) arg2.view (Rect.unit (s := S1x64) ![0, 0] S1x64.size inb_S1x64_S1x64_0_0).toLoadRect
      (harg2.unread x0)) (View.readAt (Elt F) arg3.view (Rect.unit (s := S2048x64) ![0, 0] S2048x64.size inb_S2048x64_S2048x64_0_0).toLoadRect
      (harg3.unread x1))) (weights1 (View.readAt (Elt F) arg2.view (Rect.unit (s := S1x64) ![0, 0] S1x64.size inb_S1x64_S1x64_0_0).toLoadRect
      (harg2.unread x0)) (View.readAt (Elt F) arg3.view (Rect.unit (s := S2048x64) ![0, 0] S2048x64.size inb_S2048x64_S2048x64_0_0).toLoadRect
      (harg3.unread x1))) : List (View.Piece (Elt F) S2048x2 .f32)) = _
  rw [hl, hs]

end Cases

end Cert.KernelIdeal.Body
end
-- ==== Proof.KernelFold.lean ====
/- The kernel's result over its whole grid: the blocks that each grid point reads, as parts of the arguments, and the result as the sum of
   the thirty-two points' additions. -/
module

public import proofs.«01_k».proof.Proof.KernelBody
public import Idealize.ShloMosaic.Lib.StableHlo.Run
public import Idealize.ShloMosaic.Lib.ValueIdx

@[expose] public section

set_option maxRecDepth 16384

noncomputable section

open Idealize.ShloMosaic Idealize.ShloMosaic.TcCoe Idealize.ShloMosaic.ValueIdx

namespace Cert.KernelIdeal.Fold

open Cert.KernelIdeal Cert.KernelIdeal.Gen Cert.KernelIdeal.Body

variable {F : FTy → Type} [FloatOps F] [Named F]
variable (m : (ℓ : Loc nD τ sig) → Buf (Elt F) ℓ)

/-! ## The blocks that the points read -/

/-- The scale as the region finds it: the argument as one row. -/
theorem V_scale (c : Dev nD) : V m c main_v0 = shapeCast S1x64 (m ((c : Thread nD τ).loc main_arg2)) shapeCasts_S64_S1x64 := by
  show StableHlo.after hostOps0 _ (Proc.devRef .tc main_v0) = _
  after_results
  rfl

/-- The tokens as the region finds them: the argument narrowed. -/
theorem V_tokens (c : Dev nD) :
    V m c main_v1 = (truncf .bf16 (m ((c : Thread nD τ).loc main_arg0) : FVec F S2048x1024 .f32) bitsLt_bf16_f32 : FVec F S2048x1024 .bf16) := by
  show StableHlo.after hostOps0 _ (Proc.devRef .tc main_v1) = _
  after_results

theorem index0 : ∀ t : Fin cfg0.N, win0_0.index t (0 : Fin 2) = 0 ∧ win0_0.index t (1 : Fin 2) = 0 := (by decide +kernel : ∀ t : Fin grid0.N, _)
theorem index1 : ∀ t : Fin cfg0.N, win0_1.index t (0 : Fin 2) = 0 ∧ win0_1.index t (1 : Fin 2) = 0 := (by decide +kernel : ∀ t : Fin grid0.N, _)
theorem index2 : ∀ t : Fin cfg0.N, win0_2.index t (0 : Fin 2) = 0 ∧ win0_2.index t (1 : Fin 2) = 0 := (by decide +kernel : ∀ t : Fin grid0.N, _)
theorem index3 : ∀ t : Fin cfg0.N, win0_3.index t (0 : Fin 3) = t.val ∧ win0_3.index t (1 : Fin 3) = 0 ∧ win0_3.index t (2 : Fin 3) = 0 :=
  (by decide +kernel : ∀ t : Fin grid0.N, _)
theorem index4 : ∀ t : Fin cfg0.N, win0_4.index t (0 : Fin 3) = t.val ∧ win0_4.index t (1 : Fin 3) = 0 ∧ win0_4.index t (2 : Fin 3) = 0 :=
  (by decide +kernel : ∀ t : Fin grid0.N, _)
theorem index5 : ∀ t : Fin cfg0.N, win0_5.index t (0 : Fin 3) = t.val ∧ win0_5.index t (1 : Fin 3) = 0 ∧ win0_5.index t (2 : Fin 3) = 0 :=
  (by decide +kernel : ∀ t : Fin grid0.N, _)
theorem coords_val : ∀ t : Fin cfg0.N, (grid0.coords t 0).val = 0 ∧ (grid0.coords t 1).val = t.val := (by decide +kernel : ∀ t : Fin grid0.N, _)

/-- Every point reads the whole scale. -/
theorem block0 (c : Dev nD) (t : Fin cfg0.N) :
    iblk m c 0 t = shapeCast S1x64 (m ((c : Thread nD τ).loc main_arg2)) shapeCasts_S64_S1x64 := by
  obtain ⟨e0, e1⟩ := index0 t
  refine Eq.trans ?_ (V_scale m c)
  funext j
  show V m c main_v0 (((cfg0.win 0).blk t).view.emb j) = V m c main_v0 j
  congr 1
  funext a; apply Fin.ext
  match a with
  | ⟨0, _⟩ => show win0_0.index t (0 : Fin 2) * 1 + 1 * (j 0).val = (j 0).val; omega
  | ⟨1, _⟩ => show win0_0.index t (1 : Fin 2) * 64 + 1 * (j 1).val = (j 1).val; omega

/-- Every point reads all the logits. -/
theorem block1 (c : Dev nD) (t : Fin cfg0.N) : iblk m c 1 t = m ((c : Thread nD τ).loc main_arg1) := by
  obtain ⟨e0, e1⟩ := index1 t
  refine Eq.trans ?_ (V_main_arg1 m c)
  funext j
  show V m c main_arg1 (((cfg0.win 1).blk t).view.emb j) = V m c main_arg1 j
  congr 1
  funext a; apply Fin.ext
  match a with
  | ⟨0, _⟩ => show win0_1.index t (0 : Fin 2) * 2048 + 1 * (j 0).val = (j 0).val; omega
  | ⟨1, _⟩ => show win0_1.index t (1 : Fin 2) * 64 + 1 * (j 1).val = (j 1).val; omega

/-- Every point reads all the tokens. -/
theorem block2 (c : Dev nD) (t : Fin cfg0.N) :
    iblk m c 2 t = (truncf .bf16 (m ((c : Thread nD τ).loc main_arg0) : FVec F S2048x1024 .f32) bitsLt_bf16_f32 : FVec F S2048x1024 .bf16) := by
  obtain ⟨e0, e1⟩ := index2 t
  refine Eq.trans ?_ (V_tokens m c)
  funext j
  show V m c main_v1 (((cfg0.win 2).blk t).view.emb j) = V m c main_v1 j
  congr 1
  funext a; apply Fin.ext
  match a with
  | ⟨0, _⟩ => show win0_2.index t (0 : Fin 2) * 2048 + 1 * (j 0).val = (j 0).val; omega
  | ⟨1, _⟩ => show win0_2.index t (1 : Fin 2) * 1024 + 1 * (j 1).val = (j 1).val; omega

/-- The number of expert `j` of the two that point `t` works on. -/
def expertOf (t : Fin cfg0.N) (j : Fin 2) : Fin 64 := ⟨2 * t.val + j.val, by have : t.val < 32 := lt_of_lt_of_eq t.isLt N_0; omega⟩

/-- A point reads its two experts' first matrices. -/
theorem block3 (c : Dev nD) (t : Fin cfg0.N) (j : Fin 2) (f : Fin 512) (k : Fin 1024) :
    (iblk m c 3 t : Vec F S2x512x1024 .f32) (ix3 j f k) = (m ((c : Thread nD τ).loc main_arg3) : Vec F S64x512x1024 .f32) (ix3 (expertOf t j) f k) := by
  obtain ⟨e0, e1, e2⟩ := index3 t
  refine Eq.trans ?_ (congrFun (V_main_arg3 m c) _)
  show V m c main_arg3 (((cfg0.win 3).blk t).view.emb (ix3 j f k)) = V m c main_arg3 _
  congr 1
  funext a; apply Fin.ext
  match a with
  | ⟨0, _⟩ => show win0_3.index t (0 : Fin 3) * 2 + 1 * j.val = 2 * t.val + j.val; omega
  | ⟨1, _⟩ => show win0_3.index t (1 : Fin 3) * 512 + 1 * f.val = f.val; omega
  | ⟨2, _⟩ => show win0_3.index t (2 : Fin 3) * 1024 + 1 * k.val = k.val; omega

/-- A point reads its two experts' third matrices. -/
theorem block4 (c : Dev nD) (t : Fin cfg0.N) (j : Fin 2) (f : Fin 512) (k : Fin 1024) :
    (iblk m c 4 t : Vec F S2x512x1024 .f32) (ix3 j f k) = (m ((c : Thread nD τ).loc main_arg4) : Vec F S64x512x1024 .f32) (ix3 (expertOf t j) f k) := by
  obtain ⟨e0, e1, e2⟩ := index4 t
  refine Eq.trans ?_ (congrFun (V_main_arg4 m c) _)
  show V m c main_arg4 (((cfg0.win 4).blk t).view.emb (ix3 j f k)) = V m c main_arg4 _
  congr 1
  funext a; apply Fin.ext
  match a with
  | ⟨0, _⟩ => show win0_4.index t (0 : Fin 3) * 2 + 1 * j.val = 2 * t.val + j.val; omega
  | ⟨1, _⟩ => show win0_4.index t (1 : Fin 3) * 512 + 1 * f.val = f.val; omega
  | ⟨2, _⟩ => show win0_4.index t (2 : Fin 3) * 1024 + 1 * k.val = k.val; omega

/-- A point reads its two experts' second matrices. -/
theorem block5 (c : Dev nD) (t : Fin cfg0.N) (j : Fin 2) (d : Fin 1024) (f : Fin 512) :
    (iblk m c 5 t : Vec F S2x1024x512 .f32) (ix3 j d f) = (m ((c : Thread nD τ).loc main_arg5) : Vec F S64x1024x512 .f32) (ix3 (expertOf t j) d f) := by
  obtain ⟨e0, e1, e2⟩ := index5 t
  refine Eq.trans ?_ (congrFun (V_main_arg5 m c) _)
  show V m c main_arg5 (((cfg0.win 5).blk t).view.emb (ix3 j d f)) = V m c main_arg5 _
  congr 1
  funext a; apply Fin.ext
  match a with
  | ⟨0, _⟩ => show win0_5.index t (0 : Fin 3) * 2 + 1 * j.val = 2 * t.val + j.val; omega
  | ⟨1, _⟩ => show win0_5.index t (1 : Fin 3) * 1024 + 1 * d.val = d.val; omega
  | ⟨2, _⟩ => show win0_5.index t (2 : Fin 3) * 512 + 1 * f.val = f.val; omega

/-! ## The fold over the points -/

/-- What point `t` adds to the result. -/
def addedAt (c : Dev nD) (t : Fin cfg0.N) : FVec F S2048x1024 .f32 :=
  let l : Vec F S2048x64 .f32 := m ((c : Thread nD τ).loc main_arg1)
  let s : Vec F S1x64 .f32 := shapeCast S1x64 (m ((c : Thread nD τ).loc main_arg2)) shapeCasts_S64_S1x64
  added (grid0.coords t) (asRow (slots0 l)) (asRow (slots1 l)) (asCol (slots0 l)) (asCol (slots1 l)) (weights0 s l) (weights1 s l)
    (iblk m c 2 t) (iblk m c 3 t) (iblk m c 4 t) (iblk m c 5 t)

/-- The sum of what the points up to `n` add. -/
def addedUpTo (c : Dev nD) : (n : ℕ) → n < cfg0.N → FVec F S2048x1024 .f32
  | 0, h => addedAt m c ⟨0, h⟩
  | n + 1, h => addf (addedUpTo c n (Nat.lt_of_succ_lt h)) (addedAt m c ⟨n + 1, h⟩)

/-- After every point the result block holds the running sum, and the scratch arrays hold the slots and the weights. -/
theorem state (c : Dev nD) : ∀ (n : ℕ) (h : n < cfg0.N),
    let l : Vec F S2048x64 .f32 := m ((c : Thread nD τ).loc main_arg1)
    let s : Vec F S1x64 .f32 := shapeCast S1x64 (m ((c : Thread nD τ).loc main_arg2)) shapeCasts_S64_S1x64
    outsAt0 m c n h = (shapeCast S1x2048x1024 (addedUpTo m c n h) shapeCasts_S2048x1024_S1x2048x1024,
      View.canon (twoRows (asRow (slots0 l)) (asRow (slots1 l)) : List (View.Piece (Elt F) S2x2048 .i32)),
      View.canon (twoCols (asCol (slots0 l)) (asCol (slots1 l)) : List (View.Piece (Elt F) S2048x2 .i32)),
      View.canon (twoCols (weights0 s l) (weights1 s l) : List (View.Piece (Elt F) S2048x2 .f32)))
  | 0, h => by
    intro l s
    rw [Value.outsAt0_zero, show Value.stAt0 m c 0 h Value.junk0 = _ from
      Value.stAt0_A m c ⟨0, h⟩ Value.junk0 (Nat.zero_mod _) (Nat.zero_mod _) (fun h => by (try dsimp only at h); omega)]
    rw [out_A, scratch_rows, scratch_cols, scratch_weights]
    rw [block0, block1]
    rfl
  | n + 1, h => by
    intro l s
    have hN : n + 1 < 32 := lt_of_lt_of_eq h N_0
    have hB : ¬(n + 1) % 32 = 0 := by omega
    rw [Value.outsAt0_succ, show Value.stAt0 m c (n + 1) h _ = _ from
      Value.stAt0_B m c ⟨n + 1, h⟩ _ hB hB (Nat.succ_pos n)]
    rw [out_B]
    have ih := state c n (Nat.lt_of_succ_lt h)
    rw [ih]
    unfold sout0_B_0 sout0_B_1 sout0_B_2
    dsimp only
    rw [rowOf0_canon, rowOf1_canon, colOf0_canon, colOf1_canon, colOf0_canon, colOf1_canon, shapeCast_shapeCast]
    rfl

/-- The kernel's result array: the sum of what all the points add, with a leading axis of one. -/
theorem result (c : Dev nD) :
    Value.G6 m c = shapeCast S1x2048x1024 (addedUpTo m c 31 (lt_of_lt_of_eq (by decide) N_0.symm)) shapeCasts_S2048x1024_S1x2048x1024 := by
  rw [Value.G6_last, ← Value.outsAt0_sweep m c 31 (lt_of_lt_of_eq (by decide) N_0.symm), state]

end Cert.KernelIdeal.Fold
end
-- ==== Proof.Spec.lean ====
/- The layer that both programs compute, as plain functions of coordinates: which two experts a token chooses, with what weights, at
   which place in an expert's buffer, what the experts' networks return, and the weighted sum. Nothing here names either program. -/
module

public import Idealize.ShloMosaic.PureOps.Ideal
public import Idealize.ShloMosaic.PureOps.Ideal.Laws

@[expose] public section

noncomputable section

namespace Moe

open Idealize.ShloMosaic
open scoped BigOperators

/-! ## The two choices of a token -/

/-- Expert `a` is ranked no later than expert `e`: it has the greater score, or the same score and no greater number. -/
def Ahead (l : Fin 64 → EReal) (a e : Fin 64) : Prop := l e < l a ∨ (l e = l a ∧ a ≤ e)

/-- Expert `a` is the one ranked first among the experts in `S`. -/
def Leads (l : Fin 64 → EReal) (S : Fin 64 → Prop) (a : Fin 64) : Prop := S a ∧ ∀ e, S e → Ahead l a e

/-- There is at most one leader. -/
theorem Leads.unique {l : Fin 64 → EReal} {S : Fin 64 → Prop} {a b : Fin 64} (ha : Leads l S a) (hb : Leads l S b) : a = b := by
  rcases ha.2 b hb.1 with h | ⟨h, h'⟩ <;> rcases hb.2 a ha.1 with k | ⟨k, k'⟩
  · exact absurd (h.trans k) (lt_irrefl _)
  · rw [k] at h; exact absurd h (lt_irrefl _)
  · rw [h] at k; exact absurd k (lt_irrefl _)
  · exact le_antisymm h' k'

/-- A set with a member has a leader. -/
theorem exists_leads (l : Fin 64 → EReal) (S : Fin 64 → Prop) (hS : ∃ e, S e) : ∃ a, Leads l S a := by
  classical
  have hne : (Finset.univ.filter S).Nonempty := by
    obtain ⟨e, he⟩ := hS
    exact ⟨e, by simpa using he⟩
  obtain ⟨m, hm, hmax⟩ := Finset.exists_max_image (Finset.univ.filter S) l hne
  have hne2 : (Finset.univ.filter fun e => S e ∧ l e = l m).Nonempty := ⟨m, by simpa using hm⟩
  refine ⟨(Finset.univ.filter fun e => S e ∧ l e = l m).min' hne2, ?_⟩
  have hmem := Finset.min'_mem _ hne2
  simp only [Finset.mem_filter, Finset.mem_univ, true_and] at hmem hmax
  refine ⟨hmem.1, fun e he => ?_⟩
  rcases (hmax e he).lt_or_eq with h | h
  · exact Or.inl (by rw [hmem.2]; exact h)
  · refine Or.inr ⟨by rw [hmem.2]; exact h, Finset.min'_le _ _ (by simpa using ⟨he, h⟩)⟩

/-- A token's first choice. -/
def first (l : Fin 64 → EReal) : Fin 64 := (exists_leads l (fun _ => True) ⟨0, trivial⟩).choose

theorem first_leads (l : Fin 64 → EReal) : Leads l (fun _ => True) (first l) := (exists_leads l _ ⟨0, trivial⟩).choose_spec

theorem exists_other (a : Fin 64) : ∃ e, e ≠ a := by
  by_cases h : a = 0
  · exact ⟨1, by subst h; decide⟩
  · exact ⟨0, fun h' => h h'.symm⟩

/-- A token's second choice: the leader among the others. -/
def second (l : Fin 64 → EReal) : Fin 64 := (exists_leads l (fun e => e ≠ first l) (exists_other _)).choose

theorem second_leads (l : Fin 64 → EReal) : Leads l (fun e => e ≠ first l) (second l) :=
  (exists_leads l _ (exists_other _)).choose_spec

theorem second_ne (l : Fin 64 → EReal) : second l ≠ first l := (second_leads l).1

theorem le_first (l : Fin 64 → EReal) (e : Fin 64) : l e ≤ l (first l) := by
  rcases (first_leads l).2 e trivial with h | h
  · exact h.le
  · exact h.1.le

/-! ## Their weights -/

/-- The second choice's share against the first's: the exponential of the difference of the two scores. -/
def odds (l : Fin 64 → EReal) : EReal := Ideal.exp (l (second l) - l (first l))

/-- The first choice's weight: its softmax share among the two, times the expert's own scale. -/
def weightA (l sc : Fin 64 → EReal) : EReal := Ideal.div 1 (1 + odds l) * sc (first l)

/-- The second choice's weight. -/
def weightB (l sc : Fin 64 → EReal) : EReal := Ideal.div (odds l) (1 + odds l) * sc (second l)

/-! ## Places in the experts' buffers -/

/-- How many earlier tokens have the same first choice as token `t`. -/
def placeA (a : Fin 2048 → Fin 64) (t : Fin 2048) : ℕ := (Finset.univ.filter fun u => u < t ∧ a u = a t).card

/-- How many earlier tokens have the same second choice as token `t`, and how many tokens have it as their first. -/
def placeB (a b : Fin 2048 → Fin 64) (t : Fin 2048) : ℕ :=
  (Finset.univ.filter fun u => u < t ∧ b u = b t).card + (Finset.univ.filter fun u => a u = b t).card

theorem placeA_le (a : Fin 2048 → Fin 64) (t : Fin 2048) : placeA a t ≤ 2048 :=
  (Finset.card_le_univ _).trans (by simp)

theorem placeB_le (a b : Fin 2048 → Fin 64) (t : Fin 2048) : placeB a b t ≤ 4096 := by
  have h1 := Finset.card_le_univ (Finset.univ.filter fun u => u < t ∧ b u = b t)
  have h2 := Finset.card_le_univ (Finset.univ.filter fun u => a u = b t)
  simp only [Fintype.card_fin] at h1 h2
  unfold placeB; omega

/-! ## The experts' networks and the result -/

/-- Row `p` of expert `e`'s buffer: the token placed there, zero when there is none. -/
def buffer (a b : Fin 2048 → Fin 64) (x : Fin 2048 → Fin 1024 → EReal) (e : Fin 64) (p : ℕ) (d : Fin 1024) : EReal :=
  ∑ t, ((if a t = e ∧ placeA a t = p then x t d else 0) + (if b t = e ∧ placeB a b t = p then x t d else 0))

/-- A row times a matrix whose rows are the outputs' weights. -/
def linear {n m : ℕ} (w : Fin n → Fin m → EReal) (v : Fin m → EReal) (j : Fin n) : EReal := ∑ k, v k * w j k

/-- The exact gelu, as half of the argument times one plus the error function. -/
def gelu (v : EReal) : EReal := Ideal.ofBits .f32 0x3F000000#32 * v * (1 + Ideal.erf (v * (((Real.sqrt 2)⁻¹ : ℝ) : EReal)))

/-- The hidden row of one expert: the gelu of one product, times another. -/
def hidden (w1 w3 : Fin 512 → Fin 1024 → EReal) (v : Fin 1024 → EReal) (f : Fin 512) : EReal := gelu (linear w1 v f) * linear w3 v f

/-- What expert `e` returns for row `p` of its buffer. -/
def expert (a b : Fin 2048 → Fin 64) (x : Fin 2048 → Fin 1024 → EReal) (w1 w3 : Fin 64 → Fin 512 → Fin 1024 → EReal)
    (w2 : Fin 64 → Fin 1024 → Fin 512 → EReal) (e : Fin 64) (p : ℕ) (d : Fin 1024) : EReal :=
  linear (w2 e) (hidden (w1 e) (w3 e) (buffer a b x e p)) d

/-- The result at token `t`: the two choices' rows, weighted; a choice beyond the buffer's 160 places counts for nothing. -/
def mixed (a b : Fin 2048 → Fin 64) (wa wb : Fin 2048 → EReal) (y : Fin 64 → ℕ → Fin 1024 → EReal) (t : Fin 2048) (d : Fin 1024) : EReal :=
  (if placeA a t < 160 then wa t * y (a t) (placeA a t) d else 0) + (if placeB a b t < 160 then wb t * y (b t) (placeB a b t) d else 0)

/-- The whole layer, from the arguments. -/
def layer (x : Fin 2048 → Fin 1024 → EReal) (l : Fin 2048 → Fin 64 → EReal) (sc : Fin 64 → EReal)
    (w1 w3 : Fin 64 → Fin 512 → Fin 1024 → EReal) (w2 : Fin 64 → Fin 1024 → Fin 512 → EReal) (t : Fin 2048) (d : Fin 1024) : EReal :=
  mixed (fun u => first (l u)) (fun u => second (l u)) (fun u => weightA (l u) sc) (fun u => weightB (l u) sc)
    (expert (fun u => first (l u)) (fun u => second (l u)) x w1 w3 w2) t d

/-- One choice, gathered by a sum over every place of every expert: only the place it has answers. -/
theorem sum_place (e0 : Fin 64) (p0 : ℕ) (w : EReal) (y : Fin 64 → ℕ → EReal) :
    ∑ e : Fin 64, ∑ p : Fin 160, (if e0 = e ∧ p0 = p.val then w else 0) * y e p.val = if p0 < 160 then w * y e0 p0 else 0 := by
  rw [Finset.sum_eq_single e0]
  · by_cases h : p0 < 160
    · rw [if_pos h, Finset.sum_eq_single (⟨p0, h⟩ : Fin 160)]
      · simp
      · intro p _ hp
        rw [if_neg (fun hh => hp (Fin.ext hh.2.symm)), zero_mul]
      · simp
    · rw [if_neg h]
      refine Finset.sum_eq_zero fun p _ => ?_
      rw [if_neg (fun hh => h (by rw [hh.2]; exact p.isLt)), zero_mul]
  · intro e _ he
    refine Finset.sum_eq_zero fun p _ => ?_
    rw [if_neg (fun hh => he hh.1.symm), zero_mul]
  · simp

/-- Both choices together, as one sum over every place of every expert: no place holds both, since the two experts differ. -/
theorem mixed_eq_sum (a b : Fin 2048 → Fin 64) (wa wb : Fin 2048 → EReal) (y : Fin 64 → ℕ → Fin 1024 → EReal) (t : Fin 2048) (d : Fin 1024)
    (hab : b t ≠ a t) :
    mixed a b wa wb y t d = ∑ e : Fin 64, ∑ p : Fin 160,
      ((if a t = e ∧ placeA a t = p.val then wa t else 0) + (if b t = e ∧ placeB a b t = p.val then wb t else 0)) * y e p.val d := by
  unfold mixed
  rw [← sum_place (a t) (placeA a t) (wa t) (fun e p => y e p d), ← sum_place (b t) (placeB a b t) (wb t) (fun e p => y e p d),
    ← Finset.sum_add_distrib]
  refine Finset.sum_congr rfl fun e _ => ?_
  rw [← Finset.sum_add_distrib]
  refine Finset.sum_congr rfl fun p _ => ?_
  by_cases h : a t = e ∧ placeA a t = p.val
  · rw [if_neg (c := b t = e ∧ _) (fun hh => hab (hh.1.trans h.1.symm)), zero_mul, add_zero, add_zero]
  · rw [if_neg h, zero_mul, zero_add, zero_add]

end Moe

end
-- ==== Proof.Words.lean ====
/- Words and small arrays read at coordinates, for both programs: casts and broadcasts of rows and columns, the least word of a fold, sums of
   indicator words as counts, and running sums by doubling. -/
module

public import proofs.«01_k».proof.Proof.Spec
public import Idealize.ShloMosaic.Lib.Routing.Ops
public import Idealize.ShloMosaic.Lib.Pipeline.Value
public import Idealize.ShloMosaic.Lib.WordSum
public import Idealize.ShloMosaic.Lib.WordCmp
public import Idealize.ShloMosaic.Lib.ValueIdx
public import Idealize.ShloMosaic.Lib.IdealHost

@[expose] public section

set_option maxRecDepth 16384

noncomputable section

open Idealize.ShloMosaic Idealize.ShloMosaic.ValueIdx Idealize.ShloMosaic.Routing
open scoped BigOperators

namespace Moe

/-! ## Casts and broadcasts -/

/-- A vector cast to a column, at a row. -/
theorem toCol {α : Type} {n : ℕ} (v : (shape1 n).Idx → α) (h : (shape1 n).ShapeCasts (shape2 n 1)) (t : Fin n) (z : Fin 1) :
    shapeCast (shape2 n 1) v h (ix2 t z) = v (ix1 t) := cast12 v h t z t (by have := z.isLt; omega)

/-- A column cast to a vector. -/
theorem fromCol {α : Type} {n : ℕ} (v : (shape2 n 1).Idx → α) (h : (shape2 n 1).ShapeCasts (shape1 n)) (t : Fin n) :
    shapeCast (shape1 n) v h (ix1 t) = v (ix2 t 0) := cast21 v h t 0 t (by simp)

/-- A vector cast to a row. -/
theorem toRow {α : Type} {n : ℕ} (v : (shape1 n).Idx → α) (h : (shape1 n).ShapeCasts (shape2 1 n)) (z : Fin 1) (t : Fin n) :
    shapeCast (shape2 1 n) v h (ix2 z t) = v (ix1 t) := cast12 v h z t t (by rw [show z = 0 from Subsingleton.elim _ _]; simp)

/-- A row cast to a vector. -/
theorem fromRow {α : Type} {n : ℕ} (v : (shape2 1 n).Idx → α) (h : (shape2 1 n).ShapeCasts (shape1 n)) (t : Fin n) :
    shapeCast (shape1 n) v h (ix1 t) = v (ix2 0 t) := cast21 v h 0 t t (by simp)

/-- A column broadcast along its rows. -/
theorem spreadCol {α : Type} {n k : ℕ} (v : (shape2 n 1).Idx → α) (h : (shape2 n 1).Broadcasts (shape2 n k)) (t : Fin n) (e : Fin k) :
    broadcastTo (shape2 n k) v h (ix2 t e) = v (ix2 t 0) := by
  refine broadcastTo_apply v h _ _ fun a => ?_
  match a with
  | ⟨0, _⟩ => show t.val = if n = 1 then 0 else t.val; have := t.isLt; split <;> omega
  | ⟨1, _⟩ => rfl

/-- A row broadcast down its columns. -/
theorem spreadRow {α : Type} {n k : ℕ} (v : (shape2 1 k).Idx → α) (h : (shape2 1 k).Broadcasts (shape2 n k)) (t : Fin n) (e : Fin k) :
    broadcastTo (shape2 n k) v h (ix2 t e) = v (ix2 0 e) := by
  refine broadcastTo_apply v h _ _ fun a => ?_
  match a with
  | ⟨0, _⟩ => rfl
  | ⟨1, _⟩ => show e.val = if k = 1 then 0 else e.val; have := e.isLt; split <;> omega

/-! ## Folds -/

/-- The signed lesser of two words is one of them, and no greater than either. -/
theorem minsi_cases (x y : BitVec 32) :
    (IntOp.minsi x y = x ∨ IntOp.minsi x y = y) ∧ (IntOp.minsi x y).toInt ≤ x.toInt ∧ (IntOp.minsi x y).toInt ≤ y.toInt := by
  unfold IntOp.minsi
  by_cases h : x.slt y = true
  · rw [if_pos h]; rw [BitVec.slt, decide_eq_true_eq] at h; exact ⟨Or.inl rfl, le_refl _, h.le⟩
  · rw [if_neg h]; rw [BitVec.slt, decide_eq_true_eq, not_lt] at h; exact ⟨Or.inr rfl, h, le_refl _⟩

/-- A fold of the signed lesser is the word at `a` when that word is no greater than any other and than the start. -/
theorem fold_minsi {ι : Type} [Fintype ι] (g : ι → BitVec 32) (init : BitVec 32) (a : ι) (h0 : (g a).toInt ≤ init.toInt)
    (h : ∀ i, (g a).toInt ≤ (g i).toInt) : (Finset.univ : Finset ι).fold IntOp.minsi init g = g a := by
  classical
  have key : ∀ s : Finset ι, (g a).toInt ≤ (s.fold IntOp.minsi init g).toInt ∧ (∀ i ∈ s, (s.fold IntOp.minsi init g).toInt ≤ (g i).toInt) := by
    intro s
    induction s using Finset.induction_on with
    | empty => exact ⟨by simpa using h0, by simp⟩
    | insert i s hi ih =>
      rw [Finset.fold_insert hi]
      obtain ⟨c, l, r⟩ := minsi_cases (g i) (s.fold IntOp.minsi init g)
      refine ⟨?_, fun j hj => ?_⟩
      · rcases c with c | c <;> rw [c]
        · exact h i
        · exact ih.1
      · rcases Finset.mem_insert.mp hj with rfl | hj
        · exact l
        · exact r.trans (ih.2 j hj)
  exact BitVec.eq_of_toInt_eq (le_antisymm ((key _).2 a (Finset.mem_univ _)) (key _).1)

/-- A fold of the maximum from minus infinity is the value at `a` when that is no less than any other. -/
theorem fold_max {ι : Type} [Fintype ι] (g : ι → EReal) (a : ι) (h : ∀ i, g i ≤ g a) : (Finset.univ : Finset ι).fold max ⊥ g = g a := by
  refine le_antisymm ((Finset.fold_max_le _).mpr ⟨bot_le, fun i _ => h i⟩) ?_
  exact (Finset.le_fold_max _).mpr (Or.inr ⟨a, Finset.mem_univ _, le_refl _⟩)

/-- The row's sum of a matrix of words. -/
theorem rowSum {n k : ℕ} (v : IVec (shape2 n k) 32) (h : (shape2 n k).Reduces [1] (shape1 n)) (hacc : (0#32 : BitVec 32) = IKind.add.neutral)
    (t : Fin n) : multiReductionI .add [1] (shape1 n) v 0#32 h hacc (ix1 t) = ∑ e : Fin k, v (ix2 t e) := by
  rw [multiReductionI_eq_reduceFold]
  show reduceFold h (· + ·) (0#32 : BitVec 32) v _ = _
  rw [reduceFold_add_eq_sum, show (0#32 : BitVec 32) = 0 from rfl, zero_add, h.sum_filter_drop_single]
  exact Finset.sum_congr rfl fun e _ => congrArg v (funext fun a => match a with
    | ⟨0, _⟩ => rfl
    | ⟨1, _⟩ => rfl)

/-- The column's sum of a matrix of words. -/
theorem colSum {n k : ℕ} (v : IVec (shape2 n k) 32) (h : (shape2 n k).Reduces [0] (shape1 k)) (hacc : (0#32 : BitVec 32) = IKind.add.neutral)
    (e : Fin k) : multiReductionI .add [0] (shape1 k) v 0#32 h hacc (ix1 e) = ∑ t : Fin n, v (ix2 t e) := by
  rw [multiReductionI_eq_reduceFold]
  show reduceFold h (· + ·) (0#32 : BitVec 32) v _ = _
  rw [reduceFold_add_eq_sum, show (0#32 : BitVec 32) = 0 from rfl, zero_add, h.sum_filter_drop_single]
  exact Finset.sum_congr rfl fun t _ => congrArg v (funext fun a => match a with
    | ⟨0, _⟩ => rfl
    | ⟨1, _⟩ => rfl)

/-- The row's least word. -/
theorem rowMin {n k : ℕ} (v : IVec (shape2 n k) 32) (h : (shape2 n k).Reduces [1] (shape1 n))
    (hacc : (2147483647#32 : BitVec 32) = IKind.minsi.neutral) (t : Fin n) :
    multiReductionI .minsi [1] (shape1 n) v 2147483647#32 h hacc (ix1 t)
      = (Finset.univ : Finset (Fin k)).fold IntOp.minsi 2147483647#32 (fun e => v (ix2 t e)) := by
  rw [multiReductionI_eq_fold]
  show (Finset.univ.filter fun i => h.drop i = ix1 t).fold IntOp.minsi _ v = _
  rw [h.fold_filter_drop_single]
  have e1 : v ∘ h.lift (ix1 t) = fun e : Fin k => v (ix2 t e) := funext fun e => congrArg v (funext fun a => match a with
    | ⟨0, _⟩ => rfl
    | ⟨1, _⟩ => rfl)
  rw [e1]
  rfl

/-- The row's greatest value. -/
theorem rowMax {n k : ℕ} (v : FVec Ideal (shape2 n k) .f32) (h : (shape2 n k).Reduces [1] (shape1 n)) (hφ : FKind.Formats .f32)
    (hacc : (0xFF800000#32 : BitVec 32) = FKind.maximumf.neutral .f32 hφ) (t : Fin n) (a : Fin k) (ha : ∀ e, v (ix2 t e) ≤ v (ix2 t a)) :
    multiReduction .maximumf [1] (shape1 n) v 0xFF800000#32 h hφ hacc (ix1 t) = v (ix2 t a) := by
  rw [Ideal.multiReduction_maximumf_single]
  have e0 : (FloatOps.ofBits .f32 0xFF800000#32 : Ideal .f32) = (⊥ : EReal) := by
    show Ideal.ofBits .f32 0xFF800000#32 = ⊥
    simp [Ideal.ofBits, Ideal.ieee]
  have e1 : v ∘ h.lift (ix1 t) = fun e : Fin k => v (ix2 t e) := funext fun e => congrArg v (funext fun a => match a with
    | ⟨0, _⟩ => rfl
    | ⟨1, _⟩ => rfl)
  rw [e0, e1]
  exact fold_max (fun e : Fin k => v (ix2 t e)) a ha

/-- The row's sum of a matrix of values. -/
theorem rowSumF {n k : ℕ} (v : FVec Ideal (shape2 n k) .f32) (h : (shape2 n k).Reduces [1] (shape1 n)) (hφ : FKind.Formats .f32)
    (hacc : (0x00000000#32 : BitVec 32) = FKind.add.neutral .f32 hφ) (t : Fin n) :
    multiReduction .add [1] (shape1 n) v 0x00000000#32 h hφ hacc (ix1 t) = ∑ e : Fin k, v (ix2 t e) := by
  rw [Ideal.multiReduction_add_single]
  exact Finset.sum_congr rfl fun e _ => congrArg v (funext fun a => match a with
    | ⟨0, _⟩ => rfl
    | ⟨1, _⟩ => rfl)

/-! ## Counts -/

/-- The word one where `p` holds, and zero elsewhere. -/
def bit (p : Prop) [Decidable p] : BitVec 32 := if p then 1#32 else 0#32

/-- A sum of indicator words counts. -/
theorem sum_bit {ι : Type} (s : Finset ι) (p : ι → Prop) [DecidablePred p] : ∑ i ∈ s, bit (p i) = BitVec.ofNat 32 (s.filter p).card := by
  classical
  induction s using Finset.induction_on with
  | empty => rfl
  | insert i s hi ih =>
    rw [Finset.sum_insert hi, ih, Finset.filter_insert]
    unfold bit
    by_cases h : p i
    · rw [if_pos h, if_pos h, Finset.card_insert_of_notMem (by simp [hi]), Nat.add_comm, BitVec.ofNat_add]
    · rw [if_neg h, if_neg h]; simp

/-- A sum of words against one indicator is the word there. -/
theorem sum_mul_bit {k : ℕ} (f : Fin k → BitVec 32) (a : Fin k) : ∑ e, f e * bit (e = a) = f a := by
  rw [Finset.sum_eq_single a]
  · simp [bit]
  · intro e _ he; simp [bit, he]
  · simp

/-- A one-bit word widened: the indicator of its being one. -/
theorem widen_bit (b : BitVec 1) (p : Prop) [Decidable p] (h : b = BitVec.ofBool (decide p)) : b.setWidth 32 = bit p := by
  subst h
  unfold bit
  by_cases hp : p <;> simp [hp]

/-- Two small numbers' words are compared as the numbers are. -/
theorem cmpi_eq_word (x y : ℕ) (hx : x < 2 ^ 32) (hy : y < 2 ^ 32) :
    IntOp.cmpi .eq (BitVec.ofNat 32 x) (BitVec.ofNat 32 y) = BitVec.ofBool (decide (x = y)) := by
  rw [WordCmp.cmpi_eq_ofNat hx hy]

/-! ## Running sums by doubling -/

/-- The sum of the `s` entries of `g` that end at `i`, as far as there are so many. -/
def window (g : ℕ → BitVec 32) (s i : ℕ) : BitVec 32 := ∑ k ∈ Finset.range s, if k ≤ i then g (i - k) else 0

/-- Two windows next to each other are one of twice the length. -/
theorem window_double (g : ℕ → BitVec 32) (s i : ℕ) : window g (s + s) i = window g s i + if s ≤ i then window g s (i - s) else 0 := by
  unfold window
  rw [Finset.sum_range_add]
  congr 1
  by_cases h : s ≤ i
  · rw [if_pos h]
    refine Finset.sum_congr rfl fun k _ => ?_
    by_cases hk : s + k ≤ i
    · rw [if_pos hk, if_pos (by omega), Nat.sub_sub]
    · rw [if_neg hk, if_neg (by omega)]
  · rw [if_neg h]
    exact Finset.sum_eq_zero fun k _ => by rw [if_neg (by omega)]

theorem window_one (g : ℕ → BitVec 32) (i : ℕ) : window g 1 i = g i := by
  unfold window; simp

/-- A window of the whole length, less the last entry, is the sum of the entries before `i`. -/
theorem window_before {n : ℕ} (g : ℕ → BitVec 32) (i : Fin n) : window g n i.val - g i.val = ∑ u : Fin n, if u < i then g u.val else 0 := by
  have h1 : window g n i.val = ∑ k ∈ Finset.range (i.val + 1), g k := by
    unfold window
    rw [← Finset.sum_filter, show (Finset.range n).filter (fun k => k ≤ i.val) = Finset.range (i.val + 1) from by
      ext k; have := i.isLt; simp only [Finset.mem_filter, Finset.mem_range]; omega]
    rw [← Finset.sum_range_reflect g (i.val + 1)]
    refine Finset.sum_congr rfl fun k _ => ?_
    congr 1
  have h2 : (∑ u : Fin n, if u < i then g u.val else 0) = ∑ k ∈ Finset.range i.val, g k := by
    refine (Fin.sum_univ_eq_sum_range (fun k => if k < i.val then g k else 0) n).trans ?_
    rw [← Finset.sum_filter, show (Finset.range n).filter (fun k => k < i.val) = Finset.range i.val from by
      ext k; have := i.isLt; simp only [Finset.mem_filter, Finset.mem_range]; omega]
  rw [h1, h2, Finset.sum_range_succ, add_sub_cancel_right]

/-- One doubling step on a matrix of words: the matrix plus itself moved down by `s` rows, zeros moved in. -/
def doubled {n k : ℕ} (s r : ℕ) (h : (shape2 n k).Slices ![0, 0] (shape2 r k)) (hc : Shape.Concatenates [shape2 s k, shape2 r k] (shape2 n k) 0)
    (x : IVec (shape2 n k) 32) : IVec (shape2 n k) 32 :=
  addi x (concatenate (shape2 n k) 0 [⟨shape2 s k, broadcast (shape2 s k) 0#32⟩, ⟨shape2 r k, extractStridedSlice (shape2 r k) ![0, 0] x h⟩] hc)

/-- The step at a row: the entry plus the one `s` rows above. -/
theorem doubled_apply {n k : ℕ} (s r : ℕ) (hn : s + r = n) (h : (shape2 n k).Slices ![0, 0] (shape2 r k))
    (hc : Shape.Concatenates [shape2 s k, shape2 r k] (shape2 n k) 0) (x : IVec (shape2 n k) 32) (t : Fin n) (e : Fin k) :
    doubled s r h hc x (ix2 t e) = x (ix2 t e) + if h : s ≤ t.val then x (ix2 (⟨t.val - s, by have := t.isLt; omega⟩ : Fin n) e) else 0 := by
  show x (ix2 t e) + _ = _
  congr 1
  by_cases hs : s ≤ t.val
  · rw [dif_pos hs]
    have ht := t.isLt
    rw [concatenate_pair_apply_right (t := shape2 n k) 0 _ _ hc (ix2 t e) rfl rfl (ix2 (⟨t.val - s, by omega⟩ : Fin r) e)]
    · refine extractStridedSlice_apply _ x h _ _ fun a => ?_
      match a with
      | ⟨0, _⟩ => exact (Nat.zero_add _).symm
      | ⟨1, _⟩ => exact (Nat.zero_add _).symm
    · intro b hb
      match b with
      | ⟨0, _⟩ => exact absurd rfl hb
      | ⟨1, _⟩ => rfl
    · show t.val - s + s = t.val; omega
  · rw [dif_neg hs]
    rw [concatenate_pair_apply_left (t := shape2 n k) 0 _ _ hc (ix2 t e) rfl (ix2 (⟨t.val, by omega⟩ : Fin s) e)]
    · rfl
    · intro b
      match b with
      | ⟨0, _⟩ => rfl
      | ⟨1, _⟩ => rfl

/-- A matrix of windows, doubled. -/
theorem doubled_window {n k : ℕ} (s r : ℕ) (hn : s + r = n) (h : (shape2 n k).Slices ![0, 0] (shape2 r k))
    (hc : Shape.Concatenates [shape2 s k, shape2 r k] (shape2 n k) 0) (x : IVec (shape2 n k) 32) (g : Fin k → ℕ → BitVec 32)
    (hx : ∀ t e, x (ix2 t e) = window (g e) s t.val) (t : Fin n) (e : Fin k) :
    doubled s r h hc x (ix2 t e) = window (g e) (s + s) t.val := by
  rw [doubled_apply s r hn, window_double, hx]
  by_cases hs : s ≤ t.val
  · rw [dif_pos hs, if_pos hs, hx]
  · rw [dif_neg hs, if_neg hs]

end Moe
end
-- ==== Proof.KernelRouting.lean ====
/- The kernel's routing, worked out at the first grid point: what its slots and weights are, as the layer's plain functions. -/
module

public import proofs.«01_k».proof.Proof.KernelBody
public import proofs.«01_k».proof.Proof.Words

@[expose] public section

set_option maxRecDepth 16384

noncomputable section

open Idealize.ShloMosaic Idealize.ShloMosaic.ValueIdx Idealize.ShloMosaic.Routing
open scoped BigOperators

namespace Cert.KernelIdeal.Routing

open Cert.KernelIdeal Cert.KernelIdeal.Gen Cert.KernelIdeal.Body Moe

variable (l : Vec Ideal S2048x64 .f32)

/-- The scores of token `t`. -/
def scores (t : Fin 2048) (e : Fin 64) : EReal := l (ix2 t e)

/-- The two choices of every token. -/
def choiceA (t : Fin 2048) : Fin 64 := first (scores l t)
def choiceB (t : Fin 2048) : Fin 64 := second (scores l t)

/-! ## The choices -/

/-- The least number among those whose value is the given one, as the kernel finds it. -/
theorem least_number (v : FVec Ideal S2048x64 .f32) (M : FVec Ideal S2048x1 .f32) (t : Fin 2048) (a : Fin 64) (ha : v (ix2 t a) = M (ix2 t 0))
    (hmin : ∀ e, v (ix2 t e) = M (ix2 t 0) → a ≤ e) :
    multiReductionI .minsi [1] S2048 (select (cmpf .oeq v (broadcastTo S2048x64 M broadcasts_S2048x1_S2048x64))
      (iota .tc S2048x64 32 [1] iota_S2048x64_d1_w32) (broadcast S2048x64 64#32)) 2147483647#32 reduces_S2048x64_S2048 rfl (ix1 t)
      = BitVec.ofNat 32 a.val := by
  have hv : ∀ e : Fin 64, (select (cmpf .oeq v (broadcastTo S2048x64 M broadcasts_S2048x1_S2048x64))
      (iota .tc S2048x64 32 [1] iota_S2048x64_d1_w32) (broadcast S2048x64 64#32)) (ix2 t e)
      = if v (ix2 t e) = M (ix2 t 0) then BitVec.ofNat 32 e.val else 64#32 := fun e => by
    rw [select_apply, cmpf_apply, spreadCol, iota_single_apply, broadcast_apply]
    show Scalar.select (BitVec.ofBool (decide (v (ix2 t e) = M (ix2 t 0)))) (BitVec.ofNat 32 e.val) _ = _
    by_cases h : v (ix2 t e) = M (ix2 t 0)
    · rw [if_pos h, decide_eq_true h]; rfl
    · rw [if_neg h, decide_eq_false h]; rfl
  have small : ∀ e : Fin 64, (BitVec.ofNat 32 e.val).toInt = (e.val : ℤ) := fun e =>
    WordCmp.toInt_ofNat_of_lt (by have := e.isLt; omega)
  refine (rowMin _ _ _ t).trans ((fold_minsi _ _ a ?_ ?_).trans ?_)
  · show BitVec.toInt (select _ _ _ (ix2 t a)) ≤ _
    rw [hv, if_pos ha, small, show (2147483647#32 : BitVec 32).toInt = 2147483647 from rfl]
    have := a.isLt; omega
  · intro e
    show BitVec.toInt (select _ _ _ (ix2 t a)) ≤ BitVec.toInt (select _ _ _ (ix2 t e))
    rw [hv, hv, if_pos ha, small]
    by_cases h : v (ix2 t e) = M (ix2 t 0)
    · rw [if_pos h, small]; exact_mod_cast hmin e h
    · rw [if_neg h, show (64#32 : BitVec 32).toInt = 64 from rfl]; have := a.isLt; omega
  · show select _ _ _ (ix2 t a) = _
    rw [hv, if_pos ha]

/-- The row's maximum is the first choice's score. -/
theorem pay4_apply (t : Fin 2048) : k0_pay4 l (ix2 t 0) = scores l t (choiceA l t) := by
  unfold k0_pay4
  rw [toCol]
  exact rowMax l _ _ _ t (choiceA l t) (fun e => le_first (scores l t) e)

/-- The first choice's number. -/
theorem pay5_apply (t : Fin 2048) : k0_pay5 l (ix1 t) = BitVec.ofNat 32 (choiceA l t).val := by
  unfold k0_pay5
  refine least_number l (k0_pay4 l) t (choiceA l t) (pay4_apply l t).symm fun e he => ?_
  rw [pay4_apply] at he
  rcases (first_leads (scores l t)).2 e trivial with h | h
  · exact absurd h (by rw [show scores l t e = _ from he]; exact lt_irrefl _)
  · exact h.2

/-- A one-hot comparison: the lane's number against a token's word. -/
theorem lane_eq (id : IVec S2048 32) (a : Fin 2048 → Fin 64) (hid : ∀ t, id (ix1 t) = BitVec.ofNat 32 (a t).val) (t : Fin 2048) (e : Fin 64) :
    cmpi .eq (iota .tc S2048x64 32 [1] iota_S2048x64_d1_w32)
      (broadcastTo S2048x64 (shapeCast S2048x1 id shapeCasts_S2048_S2048x1) broadcasts_S2048x1_S2048x64) (ix2 t e)
      = BitVec.ofBool (decide (e = a t)) := by
  show IntOp.cmpi .eq (iota .tc S2048x64 32 [1] iota_S2048x64_d1_w32 (ix2 t e)) (broadcastTo S2048x64 _ _ (ix2 t e)) = _
  rw [spreadCol, toCol, hid, iota_single_apply]
  refine (cmpi_eq_word e.val (a t).val (by have := e.isLt; omega) (by have := (a t).isLt; omega)).trans ?_
  simp only [Fin.ext_iff]

/-- The scores with the first choice's struck out. -/
theorem pay6_apply (t : Fin 2048) (e : Fin 64) : k0_pay6 l (ix2 t e) = if e = choiceA l t then ⊥ else scores l t e := by
  unfold k0_pay6
  rw [select_apply, lane_eq _ (choiceA l) (pay5_apply l)]
  by_cases h : e = choiceA l t
  · rw [if_pos h, decide_eq_true h]
    exact IdealRules.named_const.ideal_named_scalar _ _ _ _ rfl
  · rw [if_neg h, decide_eq_false h]; rfl

/-- The maximum of what is left is the second choice's score. -/
theorem pay7_apply (t : Fin 2048) : k0_pay7 l (ix2 t 0) = scores l t (choiceB l t) := by
  have hb : choiceB l t ≠ choiceA l t := second_ne (scores l t)
  unfold k0_pay7
  rw [toCol]
  refine (rowMax (k0_pay6 l) _ _ _ t (choiceB l t) fun e => ?_).trans ?_
  · rw [pay6_apply, pay6_apply, if_neg hb]
    by_cases h : e = choiceA l t
    · rw [if_pos h]; exact bot_le
    · rw [if_neg h]
      rcases (second_leads (scores l t)).2 e h with h' | h'
      · exact h'.le
      · exact h'.1.le
  · rw [pay6_apply, if_neg hb]

/-- The second choice's number, when no score is minus infinity. -/
theorem pay8_apply (hl : ∀ t e, scores l t e ≠ ⊥) (t : Fin 2048) : k0_pay8 l (ix1 t) = BitVec.ofNat 32 (choiceB l t).val := by
  have hb : choiceB l t ≠ choiceA l t := second_ne (scores l t)
  unfold k0_pay8
  refine least_number (k0_pay6 l) (k0_pay7 l) t (choiceB l t) ?_ fun e he => ?_
  · rw [pay6_apply, pay7_apply, if_neg hb]
  · rw [pay6_apply, pay7_apply] at he
    by_cases h : e = choiceA l t
    · rw [if_pos h] at he; exact absurd he.symm (hl _ _)
    · rw [if_neg h] at he
      rcases (second_leads (scores l t)).2 e h with h' | h'
      · exact absurd h' (by rw [he]; exact lt_irrefl _)
      · exact h'.2

/-! ## The weights -/

theorem pay9_apply (t : Fin 2048) : k0_pay9 l (ix1 t) = odds (scores l t) := by
  have e : k0_pay9 l (ix1 t) = FloatOps.exp (k0_pay7 l (ix2 t 0) - k0_pay4 l (ix2 t 0)) :=
    congrArg₂ (fun x y : EReal => (FloatOps.exp (x - y : EReal) : Ideal .f32)) (fromCol (k0_pay7 l) shapeCasts_S2048x1_S2048 t)
      (fromCol (k0_pay4 l) shapeCasts_S2048x1_S2048 t)
  rw [e, pay7_apply, pay4_apply]
  rfl

theorem pay10_apply (t : Fin 2048) : k0_pay10 l (ix1 t) = Ideal.div 1 (1 + odds (scores l t)) := by
  unfold k0_pay10
  rw [divf_apply, addf_apply, broadcast_apply, pay9_apply, show (FloatOps.ofBits .f32 0x3F800000#32 : Ideal .f32) = (1 : EReal) from Ideal.ofBits_one_f32]

theorem pay11_apply (t : Fin 2048) : k0_pay11 l (ix1 t) = Ideal.div (odds (scores l t)) (1 + odds (scores l t)) := by
  unfold k0_pay11
  rw [divf_apply, addf_apply, broadcast_apply, pay9_apply, show (FloatOps.ofBits .f32 0x3F800000#32 : Ideal .f32) = (1 : EReal) from Ideal.ofBits_one_f32]

theorem pay13_apply (t : Fin 2048) (e : Fin 64) : k0_pay13 l (ix2 t e) = bit (e = choiceA l t) := by
  unfold k0_pay13
  rw [extui_apply]
  exact widen_bit _ _ (lane_eq _ (choiceA l) (pay5_apply l) t e)

theorem pay14_apply (hl : ∀ t e, scores l t e ≠ ⊥) (t : Fin 2048) (e : Fin 64) : k0_pay14 l (ix2 t e) = bit (e = choiceB l t) := by
  unfold k0_pay14
  rw [extui_apply]
  exact widen_bit _ _ (lane_eq _ (choiceB l) (pay8_apply l hl) t e)

/-- An indicator word's value. -/
theorem value_bit (p : Prop) [Decidable p] : (FloatOps.sitofp .f32 (bit p) : Ideal .f32) = if p then (1 : EReal) else 0 := by
  show (((bit p).toInt : ℝ) : EReal) = _
  unfold bit
  by_cases h : p
  · rw [if_pos h, if_pos h, show (1#32 : BitVec 32).toInt = 1 from rfl]; simp
  · rw [if_neg h, if_neg h, show (0#32 : BitVec 32).toInt = 0 from rfl]; simp

/-- The chosen expert's scale, as the kernel picks it: a row sum of a one-hot row times the scales. -/
theorem picked (s : Vec Ideal S1x64 .f32) (o : IVec S2048x64 32) (a : Fin 2048 → Fin 64) (ho : ∀ t e, o (ix2 t e) = bit (e = a t)) (t : Fin 2048) :
    multiReduction .add [1] S2048 (mulf (sitofp .f32 o) (broadcastTo S2048x64 (shapeCast S1x64 (k0_pay12 s) shapeCasts_S64_S1x64)
      broadcasts_S1x64_S2048x64) : FVec Ideal S2048x64 .f32) 0x00000000#32 reduces_S2048x64_S2048 (.inl rfl) rfl (ix1 t) = s (ix2 0 (a t)) := by
  refine (rowSumF _ _ _ _ t).trans ((Finset.sum_eq_single (a t) ?_ ?_).trans ?_)
  · intro e _ he
    rw [mulf_apply, sitofp_apply, ho, value_bit, if_neg he, zero_mul]
  · simp
  · rw [mulf_apply, sitofp_apply, spreadRow, toRow, ho, value_bit, if_pos rfl, one_mul]
    exact fromRow s _ _

/-- The first choices' weights. -/
theorem weights0_apply (s : Vec Ideal S1x64 .f32) (t : Fin 2048) :
    weights0 s l (ix2 t 0) = weightA (scores l t) (fun e => s (ix2 0 e)) := by
  unfold weights0 k0_pay32 k0_pay31 k0_pay16 k0_pay15
  rw [shapeCast_self, toCol, mulf_apply, pay10_apply, picked s _ (choiceA l) (pay13_apply l)]
  rfl

/-- The second choices' weights. -/
theorem weights1_apply (hl : ∀ t e, scores l t e ≠ ⊥) (s : Vec Ideal S1x64 .f32) (t : Fin 2048) :
    weights1 s l (ix2 t 0) = weightB (scores l t) (fun e => s (ix2 0 e)) := by
  unfold weights1 k0_pay33 k0_pay17
  rw [shapeCast_self, toCol, mulf_apply, pay11_apply, picked s _ (choiceB l) (pay14_apply l hl)]
  rfl

/-! ## The slots -/

/-- The kernel's running sums: eleven doublings. -/
theorem pay20_eq (v : IVec S2048x64 32) : k0_pay20 v (k0_pay18 v) k0_pay19 = subi (doubled 1024 1024 slices_S2048x64_o0_0_S1024x64
    concatenates_S1024x64_S1024x64_S2048x64_d0 (doubled 512 1536 slices_S2048x64_o0_0_S1536x64 concatenates_S512x64_S1536x64_S2048x64_d0
    (doubled 256 1792 slices_S2048x64_o0_0_S1792x64 concatenates_S256x64_S1792x64_S2048x64_d0
    (doubled 128 1920 slices_S2048x64_o0_0_S1920x64 concatenates_S128x64_S1920x64_S2048x64_d0
    (doubled 64 1984 slices_S2048x64_o0_0_S1984x64 concatenates_S64x64_S1984x64_S2048x64_d0
    (doubled 32 2016 slices_S2048x64_o0_0_S2016x64 concatenates_S32x64_S2016x64_S2048x64_d0
    (doubled 16 2032 slices_S2048x64_o0_0_S2032x64 concatenates_S16x64_S2032x64_S2048x64_d0
    (doubled 8 2040 slices_S2048x64_o0_0_S2040x64 concatenates_S8x64_S2040x64_S2048x64_d0
    (doubled 4 2044 slices_S2048x64_o0_0_S2044x64 concatenates_S4x64_S2044x64_S2048x64_d0
    (doubled 2 2046 slices_S2048x64_o0_0_S2046x64 concatenates_S2x64_S2046x64_S2048x64_d0
    (doubled 1 2047 slices_S2048x64_o0_0_S2047x64 concatenates_S1x64_S2047x64_S2048x64_d0 v))))))))))) v := rfl

/-- A column of a matrix of words, by row number. -/
def column (v : IVec S2048x64 32) (e : Fin 64) (u : ℕ) : BitVec 32 := if h : u < 2048 then v (ix2 (⟨u, h⟩ : Fin 2048) e) else 0

theorem column_apply (v : IVec S2048x64 32) (e : Fin 64) (t : Fin 2048) : column v e t.val = v (ix2 t e) := by
  unfold column; rw [dif_pos t.isLt]

/-- The running sums less the entry itself, of a matrix of indicator words, count the earlier rows. -/
theorem pay20_apply (v : IVec S2048x64 32) (a : Fin 2048 → Fin 64) (hv : ∀ t e, v (ix2 t e) = bit (e = a t)) (t : Fin 2048) (e : Fin 64) :
    k0_pay20 v (k0_pay18 v) k0_pay19 (ix2 t e) = BitVec.ofNat 32 (Finset.univ.filter fun u => u < t ∧ a u = e).card := by
  have h0 : ∀ (t : Fin 2048) (e : Fin 64), v (ix2 t e) = window (column v e) 1 t.val := fun t e => by rw [window_one, column_apply]
  rw [pay20_eq]
  have h1 := doubled_window 1 2047 rfl slices_S2048x64_o0_0_S2047x64 concatenates_S1x64_S2047x64_S2048x64_d0 _ (column v) h0
  have h2 := doubled_window 2 2046 rfl slices_S2048x64_o0_0_S2046x64 concatenates_S2x64_S2046x64_S2048x64_d0 _ (column v) h1
  have h3 := doubled_window 4 2044 rfl slices_S2048x64_o0_0_S2044x64 concatenates_S4x64_S2044x64_S2048x64_d0 _ (column v) h2
  have h4 := doubled_window 8 2040 rfl slices_S2048x64_o0_0_S2040x64 concatenates_S8x64_S2040x64_S2048x64_d0 _ (column v) h3
  have h5 := doubled_window 16 2032 rfl slices_S2048x64_o0_0_S2032x64 concatenates_S16x64_S2032x64_S2048x64_d0 _ (column v) h4
  have h6 := doubled_window 32 2016 rfl slices_S2048x64_o0_0_S2016x64 concatenates_S32x64_S2016x64_S2048x64_d0 _ (column v) h5
  have h7 := doubled_window 64 1984 rfl slices_S2048x64_o0_0_S1984x64 concatenates_S64x64_S1984x64_S2048x64_d0 _ (column v) h6
  have h8 := doubled_window 128 1920 rfl slices_S2048x64_o0_0_S1920x64 concatenates_S128x64_S1920x64_S2048x64_d0 _ (column v) h7
  have h9 := doubled_window 256 1792 rfl slices_S2048x64_o0_0_S1792x64 concatenates_S256x64_S1792x64_S2048x64_d0 _ (column v) h8
  have h10 := doubled_window 512 1536 rfl slices_S2048x64_o0_0_S1536x64 concatenates_S512x64_S1536x64_S2048x64_d0 _ (column v) h9
  have h11 := doubled_window 1024 1024 rfl slices_S2048x64_o0_0_S1024x64 concatenates_S1024x64_S1024x64_S2048x64_d0 _ (column v) h10
  refine (congrArg (fun w => w - v (ix2 t e)) (h11 t e)).trans ?_
  rw [← column_apply v e t]
  refine (window_before (n := 2048) (column v e) t).trans ?_
  rw [← Finset.sum_filter]
  have hb : ∀ u : Fin 2048, column v e u.val = bit (a u = e) := fun u => by
    rw [column_apply, hv]; unfold bit; simp only [eq_comm]
  rw [Finset.sum_congr rfl (fun u _ => hb u), sum_bit, Finset.filter_filter]

/-- The columns' totals count the rows. -/
theorem pay21_apply (v : IVec S2048x64 32) (a : Fin 2048 → Fin 64) (hv : ∀ t e, v (ix2 t e) = bit (e = a t)) (e : Fin 64) :
    k0_pay21 v (ix2 0 e) = BitVec.ofNat 32 (Finset.univ.filter fun u => a u = e).card := by
  unfold k0_pay21
  rw [toRow]
  refine (colSum _ _ _ e).trans ?_
  rw [Finset.sum_congr rfl (fun u _ => (hv u e).trans (show bit (e = a u) = bit (a u = e) by unfold bit; simp only [eq_comm])), sum_bit]

/-- A slot, from a place and an expert's word: the expert's number times 160 plus the place when that is below 160, and minus one otherwise. -/
def slotWord (a : Fin 64) (p : ℕ) : BitVec 32 := if p < 160 then BitVec.ofNat 32 (a.val * 160 + p) else 4294967295#32

theorem slot_select (a : Fin 64) (p : ℕ) (hp : p ≤ 4096) :
    Scalar.select (IntOp.cmpi .slt (BitVec.ofNat 32 p) 160#32) (IntOp.addi (IntOp.muli (BitVec.ofNat 32 a.val) 160#32) (BitVec.ofNat 32 p)) 4294967295#32
      = slotWord a p := by
  unfold slotWord
  rw [WordCmp.cmpi_slt_ofNat (w := 32) (a := p) (b := 160) (by omega) (by omega)]
  by_cases h : p < 160
  · rw [if_pos h, decide_eq_true h]
    show BitVec.ofNat 32 a.val * BitVec.ofNat 32 160 + BitVec.ofNat 32 p = _
    rw [← BitVec.ofNat_mul, ← BitVec.ofNat_add]
  · rw [if_neg h, decide_eq_false h]; rfl

/-- The first choices' slots. -/
theorem slots0_apply (t : Fin 2048) : slots0 l (ix1 t) = slotWord (choiceA l t) (placeA (choiceA l) t) := by
  unfold slots0 k0_pay25
  have hpos : multiReductionI .add [1] S2048 (muli (k0_pay20 (k0_pay13 l) (k0_pay18 (k0_pay13 l)) k0_pay19) (k0_pay13 l)) 0#32
      reduces_S2048x64_S2048 rfl (ix1 t) = BitVec.ofNat 32 (placeA (choiceA l) t) := by
    refine (rowSum _ _ _ t).trans ?_
    refine (Finset.sum_congr rfl fun e _ => ?_).trans (sum_mul_bit
      (fun e => BitVec.ofNat 32 (Finset.univ.filter fun u => u < t ∧ choiceA l u = e).card) (choiceA l t))
    show k0_pay20 _ _ _ (ix2 t e) * k0_pay13 l (ix2 t e) = _
    rw [pay20_apply _ (choiceA l) (pay13_apply l), pay13_apply]
  rw [← slot_select _ _ ((placeA_le _ _).trans (by norm_num)), ← hpos, ← pay5_apply]
  rfl

/-- The second choices' slots. -/
theorem slots1_apply (hl : ∀ t e, scores l t e ≠ ⊥) (t : Fin 2048) :
    slots1 l (ix1 t) = slotWord (choiceB l t) (placeB (choiceA l) (choiceB l) t) := by
  unfold slots1 k0_pay26
  have hpos : multiReductionI .add [1] S2048 (muli (addi (k0_pay20 (k0_pay14 l) (k0_pay18 (k0_pay14 l)) k0_pay19)
      (broadcastTo S2048x64 (k0_pay21 (k0_pay13 l)) broadcasts_S1x64_S2048x64)) (k0_pay14 l)) 0#32
      reduces_S2048x64_S2048 rfl (ix1 t) = BitVec.ofNat 32 (placeB (choiceA l) (choiceB l) t) := by
    refine (rowSum _ _ _ t).trans ?_
    refine (Finset.sum_congr rfl fun e _ => ?_).trans (sum_mul_bit
      (fun e => BitVec.ofNat 32 ((Finset.univ.filter fun u => u < t ∧ choiceB l u = e).card
        + (Finset.univ.filter fun u => choiceA l u = e).card)) (choiceB l t))
    show (k0_pay20 _ _ _ (ix2 t e) + broadcastTo S2048x64 _ _ (ix2 t e)) * k0_pay14 l (ix2 t e) = _
    rw [pay20_apply _ (choiceB l) (pay14_apply l hl), pay14_apply l hl, spreadRow, pay21_apply _ (choiceA l) (pay13_apply l), BitVec.ofNat_add]
  rw [← slot_select _ _ (placeB_le _ _ _), ← hpos, ← pay8_apply l hl]
  rfl

end Cert.KernelIdeal.Routing
end
-- ==== Proof.KernelStep.lean ====
/- What one grid point adds to the kernel's result, and the sum over all of them: the layer. -/
module

public import proofs.«01_k».proof.Proof.KernelFold
public import proofs.«01_k».proof.Proof.KernelRouting
public import Idealize.ShloMosaic.Lib.MatmulPlain
public import Idealize.ShloMosaic.Lib.Pipeline.ValueKit.Tiles

@[expose] public section

set_option maxRecDepth 16384

noncomputable section

open Idealize.ShloMosaic Idealize.ShloMosaic.TcCoe Idealize.ShloMosaic.ValueIdx Idealize.ShloMosaic.Routing
open scoped BigOperators

namespace Cert.KernelIdeal.Step

open Cert.KernelIdeal Cert.KernelIdeal.Gen Cert.KernelIdeal.Body Cert.KernelIdeal.Routing Cert.KernelIdeal.Fold Moe

/-! ## Products and planes at an index -/

theorem dispatch_product (x : FVec Ideal S320x2048 .bf16) (y : FVec Ideal S2048x1024 .bf16) (r : Fin 320) (c : Fin 1024) :
    matmul dot_S320x2048_S2048x1024_S320x1024_1_0_0_1_n_n none x y (constant S320x1024 .f32 0x00000000#32) (ix2 r c)
      = ∑ k : Fin 2048, x (ix2 r k) * y (ix2 k c) :=
  (Ideal.matmul_plain_apply none x y _ r c).trans (by rw [constant_apply, Ideal.ofBits_zero_f32, zero_add])

theorem combine_product (x : FVec Ideal S2048x320 .f32) (y : FVec Ideal S320x1024 .f32) (r : Fin 2048) (c : Fin 1024) :
    matmul dot_S2048x320_S320x1024_S2048x1024_1_0_0_1_n_n none x y (constant S2048x1024 .f32 0x00000000#32) (ix2 r c)
      = ∑ k : Fin 320, x (ix2 r k) * y (ix2 k c) :=
  (Ideal.matmul_plain_apply none x y _ r c).trans (by rw [constant_apply, Ideal.ofBits_zero_f32, zero_add])

theorem up_product (x : FVec Ideal S160x1024 .f32) (y : FVec Ideal S512x1024 .f32) (r : Fin 160) (c : Fin 512) :
    matmul dot_S160x1024_S512x1024_S160x512_1_1_0_0_n_n none x y (constant S160x512 .f32 0x00000000#32) (ix2 r c)
      = ∑ k : Fin 1024, x (ix2 r k) * y (ix2 c k) :=
  (Ideal.matmul_transposedRhs_apply none x y _ r c).trans (by rw [constant_apply, Ideal.ofBits_zero_f32, zero_add])

theorem down_product (x : FVec Ideal S160x512 .f32) (y : FVec Ideal S1024x512 .f32) (r : Fin 160) (c : Fin 1024) :
    matmul dot_S160x512_S1024x512_S160x1024_1_1_0_0_n_n none x y (constant S160x1024 .f32 0x00000000#32) (ix2 r c)
      = ∑ k : Fin 512, x (ix2 r k) * y (ix2 c k) :=
  (Ideal.matmul_transposedRhs_apply none x y _ r c).trans (by rw [constant_apply, Ideal.ofBits_zero_f32, zero_add])

/-- A plane with its leading axis dropped. -/
theorem plane_apply {α : Type} {a b : ℕ} (v : (shape3 1 a b).Idx → α) (h : (shape3 1 a b).ShapeCasts (shape2 a b)) (i : Fin a) (j : Fin b) :
    shapeCast (shape2 a b) v h (ix2 i j) = v (ix3 0 i j) := by
  refine shapeCast_apply v h _ _ ?_
  rw [Shape.rowMajor_val_two, Shape.rowMajor_val_three]
  show (0 * a + i.val) * b + j.val = i.val * b + j.val
  rw [Nat.zero_mul, Nat.zero_add]

theorem planeOf_apply (a : Fin 2) (h : ∀ x, (![a.val, 0, 0] : Fin 3 → ℕ) x + S1x512x1024.size x ≤ S2x512x1024.size x) (v : Vec Ideal S2x512x1024 .f32)
    (f : Fin 512) (k : Fin 1024) : planeOf a.val h v (ix3 0 f k) = v (ix3 a f k) := by
  unfold planeOf
  refine View.ld_unit_apply_of _ _ _ _ _ (ix3 a f k) fun b => ?_
  match b with
  | ⟨0, _⟩ => rfl
  | ⟨1, _⟩ => exact (Nat.zero_add _).symm
  | ⟨2, _⟩ => exact (Nat.zero_add _).symm

theorem downOf_apply (a : Fin 2) (h : ∀ x, (![a.val, 0, 0] : Fin 3 → ℕ) x + S1x1024x512.size x ≤ S2x1024x512.size x) (v : Vec Ideal S2x1024x512 .f32)
    (d : Fin 1024) (f : Fin 512) : downOf a.val h v (ix3 0 d f) = v (ix3 a d f) := by
  unfold downOf
  refine View.ld_unit_apply_of _ _ _ _ _ (ix3 a d f) fun b => ?_
  match b with
  | ⟨0, _⟩ => rfl
  | ⟨1, _⟩ => exact (Nat.zero_add _).symm
  | ⟨2, _⟩ => exact (Nat.zero_add _).symm

/-! ## The experts' networks -/

/-- The kernel's named constant is the reciprocal of the root of two. -/
theorem inv_sqrt2_value : (Named.named (F := Ideal) κ "inv_sqrt2" 0x3F3504F3#32 : Ideal .f32) = (((Real.sqrt 2)⁻¹ : ℝ) : EReal) :=
  IdealRules.named_const.ideal_named_scalar _ _ _ _ rfl

/-- The kernel's gelu-gated hidden block. -/
theorem hidden_apply (v : FVec Ideal S160x1024 .f32) (w1 w3 : FVec Ideal S512x1024 .f32) (p : Fin 160) (f : Fin 512) :
    mulf (mulf (mulf (broadcast S160x512 (Scalar.ofBits .f32 0x3F000000#32 : Ideal .f32))
        (matmul dot_S160x1024_S512x1024_S160x512_1_1_0_0_n_n none v w1 (constant S160x512 .f32 0x00000000#32)))
      (addf (broadcast S160x512 (Scalar.ofBits .f32 0x3F800000#32 : Ideal .f32))
        (erf (mulf (matmul dot_S160x1024_S512x1024_S160x512_1_1_0_0_n_n none v w1 (constant S160x512 .f32 0x00000000#32))
          (broadcast S160x512 (Named.named (F := Ideal) κ "inv_sqrt2" 0x3F3504F3#32 : Ideal .f32))))))
      (matmul dot_S160x1024_S512x1024_S160x512_1_1_0_0_n_n none v w3 (constant S160x512 .f32 0x00000000#32)) (ix2 p f)
      = hidden (fun f k => w1 (ix2 f k)) (fun f k => w3 (ix2 f k)) (fun k => v (ix2 p k)) f := by
  have e1 := up_product v w1 p f
  have e3 := up_product v w3 p f
  rw [mulf_apply, mulf_apply, mulf_apply, addf_apply, broadcast_apply, broadcast_apply, e1, e3]
  have e4 : (erf (mulf (matmul dot_S160x1024_S512x1024_S160x512_1_1_0_0_n_n none v w1 (constant S160x512 .f32 0x00000000#32))
      (broadcast S160x512 (Named.named (F := Ideal) κ "inv_sqrt2" 0x3F3504F3#32 : Ideal .f32))) : FVec Ideal S160x512 .f32) (ix2 p f)
      = Ideal.erf ((∑ k : Fin 1024, v (ix2 p k) * w1 (ix2 f k)) * (((Real.sqrt 2)⁻¹ : ℝ) : EReal)) := by
    rw [← e1, ← inv_sqrt2_value]; rfl
  rw [e4, show (Scalar.ofBits .f32 0x3F800000#32 : Ideal .f32) = (1 : EReal) from Ideal.ofBits_one_f32]
  rfl

/-- The first expert's rows. -/
theorem pay37_apply (v : FVec Ideal S160x1024 .f32) (w1 w3 : Vec Ideal S1x512x1024 .f32) (w2 : Vec Ideal S1x1024x512 .f32) (p : Fin 160) (d : Fin 1024) :
    k0_pay37 v (k0_pay36 w1) w3 w2 (ix2 p d)
      = linear (fun d f => w2 (ix3 0 d f)) (hidden (fun f k => w1 (ix3 0 f k)) (fun f k => w3 (ix3 0 f k)) (fun k => v (ix2 p k))) d := by
  unfold k0_pay37 k0_pay36
  refine (down_product _ _ p d).trans (Finset.sum_congr rfl fun f _ => ?_)
  refine congrArg₂ (· * ·) ((hidden_apply v _ _ p f).trans ?_) (plane_apply w2 _ d f)
  rw [show (fun (f : Fin 512) (k : Fin 1024) => shapeCast S512x1024 w1 shapeCasts_S1x512x1024_S512x1024 (ix2 f k)) = fun f k => w1 (ix3 0 f k) from
      funext fun f => funext fun k => plane_apply w1 _ f k,
    show (fun (f : Fin 512) (k : Fin 1024) => shapeCast S512x1024 w3 shapeCasts_S1x512x1024_S512x1024 (ix2 f k)) = fun f k => w3 (ix3 0 f k) from
      funext fun f => funext fun k => plane_apply w3 _ f k]

/-- The second expert's hidden rows. -/
theorem pay39_apply (v : FVec Ideal S320x1024 .f32) (w1 w3 : Vec Ideal S1x512x1024 .f32) (p : Fin 160) (f : Fin 512) :
    k0_pay39 v w1 w3 (ix2 p f)
      = hidden (fun f k => w1 (ix3 0 f k)) (fun f k => w3 (ix3 0 f k)) (fun k => v (ix2 (⟨160 + p.val, by have := p.isLt; omega⟩ : Fin 320) k)) f := by
  unfold k0_pay39
  refine (hidden_apply _ _ _ p f).trans ?_
  rw [show (fun (f : Fin 512) (k : Fin 1024) => shapeCast S512x1024 w1 shapeCasts_S1x512x1024_S512x1024 (ix2 f k)) = fun f k => w1 (ix3 0 f k) from
      funext fun f => funext fun k => plane_apply w1 _ f k,
    show (fun (f : Fin 512) (k : Fin 1024) => shapeCast S512x1024 w3 shapeCasts_S1x512x1024_S512x1024 (ix2 f k)) = fun f k => w3 (ix3 0 f k) from
      funext fun f => funext fun k => plane_apply w3 _ f k]
  congr 1
  funext k
  refine extractStridedSlice_apply _ v _ _ _ fun a => ?_
  match a with
  | ⟨0, _⟩ => rfl
  | ⟨1, _⟩ => exact (Nat.zero_add _).symm

/-! ## Slots -/

/-- The slot of place `p` of expert `e`. -/
theorem slotWord_eq (e a : Fin 64) (p : Fin 160) (q : ℕ) : BitVec.ofNat 32 (e.val * 160 + p.val) = slotWord a q ↔ a = e ∧ q = p.val := by
  have he := e.isLt; have ha := a.isLt; have hp := p.isLt
  unfold slotWord
  by_cases h : q < 160
  · rw [if_pos h, WordCmp.ofNat_eq_ofNat_iff (by omega) (by omega), Fin.ext_iff]
    omega
  · rw [if_neg h, show (4294967295#32 : BitVec 32) = BitVec.ofNat 32 4294967295 from rfl, WordCmp.ofNat_eq_ofNat_iff (by omega) (by omega)]
    omega

/-- The slot word that lane `160 j + p` of point `t` stands for. -/
theorem lane_word (t : Fin cfg0.N) (j : Fin 2) (p : Fin 160) :
    IntOp.addi (BitVec.ofNat 32 (160 * j.val + p.val)) (Scalar.muli (firstExpert (grid0.coords t)) 160#32)
      = BitVec.ofNat 32 ((expertOf t j).val * 160 + p.val) := by
  obtain ⟨h0, h1⟩ := coords_val t
  unfold firstExpert
  show BitVec.ofNat 32 (160 * j.val + p.val) + ((BitVec.ofNat 32 (grid0.coords t 0).val * BitVec.ofNat 32 32
    + BitVec.ofNat 32 (grid0.coords t 1).val) * BitVec.ofNat 32 2) * BitVec.ofNat 32 160 = _
  rw [h0, h1, ← BitVec.ofNat_mul, ← BitVec.ofNat_add, ← BitVec.ofNat_mul, ← BitVec.ofNat_mul, ← BitVec.ofNat_add]
  congr 1
  show _ = (2 * t.val + j.val) * 160 + p.val
  ring

/-- Lane `160 j + p`. -/
def lane (j : Fin 2) (p : Fin 160) : Fin 320 := ⟨160 * j.val + p.val, by have := j.isLt; have := p.isLt; omega⟩

/-- A slot comparison: whether a choice has this place of this expert. -/
theorem slot_compare (t : Fin cfg0.N) (j : Fin 2) (p : Fin 160) (a : Fin 64) (q : ℕ) :
    IntOp.cmpi .eq (IntOp.addi (BitVec.ofNat 32 (lane j p).val) (Scalar.muli (firstExpert (grid0.coords t)) 160#32)) (slotWord a q)
      = BitVec.ofBool (decide (a = expertOf t j ∧ q = p.val)) := by
  rw [show (lane j p).val = 160 * j.val + p.val from rfl, lane_word]
  have h := slotWord_eq (expertOf t j) a p q
  by_cases hh : a = expertOf t j ∧ q = p.val
  · rw [decide_eq_true hh, h.mpr hh]; simp [IntOp.cmpi]
  · rw [decide_eq_false hh]
    have := mt h.mp hh
    show BitVec.ofBool (_ == _) = _
    rw [beq_eq_false_iff_ne.mpr this]

/-- The rows that the dispatch gathers are the experts' buffers. -/
theorem pay34_apply (t : Fin cfg0.N) (r0 r1 : Vec Ideal S1x2048 .i32) (x : Vec Ideal S2048x1024 .bf16) (a b : Fin 2048 → Fin 64)
    (hab : ∀ u, b u ≠ a u) (h0 : ∀ u, r0 (ix2 0 u) = slotWord (a u) (placeA a u)) (h1 : ∀ u, r1 (ix2 0 u) = slotWord (b u) (placeB a b u))
    (j : Fin 2) (p : Fin 160) (d : Fin 1024) :
    k0_pay34 (grid0.coords t) r0 r1 x (ix2 (lane j p) d) = buffer a b (fun u d => x (ix2 u d)) (expertOf t j) p.val d := by
  unfold k0_pay34
  refine (dispatch_product _ _ (lane j p) d).trans (Finset.sum_congr rfl fun u _ => ?_)
  rw [shapeCast_self, truncf_apply, sitofp_apply, extui_apply]
  have e0 : (ori (cmpi .eq (addi (iota .tc S320x2048 32 [0] iota_S320x2048_d0_w32) (broadcast S320x2048 (Scalar.muli (firstExpert (grid0.coords t)) 160#32)))
        (broadcastTo S320x2048 (shapeCast S1x2048 (shapeCast S2048 r0 shapeCasts_S1x2048_S2048) shapeCasts_S2048_S1x2048) broadcasts_S1x2048_S320x2048))
      (cmpi .eq (addi (iota .tc S320x2048 32 [0] iota_S320x2048_d0_w32) (broadcast S320x2048 (Scalar.muli (firstExpert (grid0.coords t)) 160#32)))
        (broadcastTo S320x2048 (shapeCast S1x2048 (shapeCast S2048 r1 shapeCasts_S1x2048_S2048) shapeCasts_S2048_S1x2048) broadcasts_S1x2048_S320x2048)))
      (ix2 (lane j p) u) = BitVec.ofBool (decide ((a u = expertOf t j ∧ placeA a u = p.val) ∨ (b u = expertOf t j ∧ placeB a b u = p.val))) := by
    show IntOp.ori (IntOp.cmpi .eq (IntOp.addi (iota .tc S320x2048 32 [0] iota_S320x2048_d0_w32 (ix2 (lane j p) u)) _) (broadcastTo S320x2048 _ _ (ix2 (lane j p) u)))
      (IntOp.cmpi .eq (IntOp.addi (iota .tc S320x2048 32 [0] iota_S320x2048_d0_w32 (ix2 (lane j p) u)) _) (broadcastTo S320x2048 _ _ (ix2 (lane j p) u))) = _
    rw [spreadRow, spreadRow, toRow, toRow, fromRow, fromRow, h0, h1, iota_single_apply, broadcast_apply]
    refine (congrArg₂ IntOp.ori (slot_compare t j p (a u) (placeA a u)) (slot_compare t j p (b u) (placeB a b u))).trans ?_
    by_cases c0 : a u = expertOf t j ∧ placeA a u = p.val <;> by_cases c1 : b u = expertOf t j ∧ placeB a b u = p.val <;>
      simp only [c0, c1, decide_true, decide_false, or_true, true_or, or_self, and_self] <;> rfl
  refine (congrArg (fun w : BitVec 1 => (FloatOps.sitofp .f32 (w.setWidth 32) : Ideal .f32) * (x (ix2 u d) : EReal)) e0).trans ?_
  rw [widen_bit _ _ rfl, value_bit]
  have hx := hab u
  by_cases c0 : a u = expertOf t j ∧ placeA a u = p.val
  · have c1 : ¬(b u = expertOf t j ∧ placeB a b u = p.val) := fun h => hx (h.1.trans c0.1.symm)
    rw [if_pos (Or.inl c0), if_pos c0, if_neg c1, one_mul, add_zero]
  · by_cases c1 : b u = expertOf t j ∧ placeB a b u = p.val
    · rw [if_pos (Or.inr c1), if_neg c0, if_pos c1, one_mul, zero_add]
    · rw [if_neg (not_or.mpr ⟨c0, c1⟩), if_neg c0, if_neg c1, zero_mul, add_zero]

/-! ## The weighted sum -/

/-- A sum over the lanes is a sum over the two experts' places. -/
theorem sum_lanes (f : Fin 320 → EReal) : ∑ s, f s = ∑ j : Fin 2, ∑ p : Fin 160, f (lane j p) := by
  refine Eq.trans ?_ (Fintype.sum_prod_type' (fun (j : Fin 2) (p : Fin 160) => f (lane j p)))
  refine (Fintype.sum_equiv finProdFinEquiv (fun x : Fin 2 × Fin 160 => f (lane x.1 x.2)) f fun x => ?_).symm
  congr 1
  apply Fin.ext
  show 160 * x.1.val + x.2.val = x.2.val + 160 * x.1.val
  omega

/-- What the combining product adds: each choice's weight against the row at its place. -/
theorem pay1_apply (t : Fin cfg0.N) (c0 c1 : Vec Ideal S2048x1 .i32) (w0 w1 : Vec Ideal S2048x1 .f32) (a b : Fin 2048 → Fin 64)
    (h0 : ∀ u, c0 (ix2 u 0) = slotWord (a u) (placeA a u)) (h1 : ∀ u, c1 (ix2 u 0) = slotWord (b u) (placeB a b u))
    (y0 : FVec Ideal S160x1024 .f32) (w : FVec Ideal S1024x512 .f32) (z : FVec Ideal S160x512 .f32) (y : Fin 2 → Fin 160 → Fin 1024 → EReal)
    (hy0 : ∀ p d, y0 (ix2 p d) = y 0 p d) (hy1 : ∀ p d, ∑ f : Fin 512, z (ix2 p f) * w (ix2 d f) = y 1 p d) (u : Fin 2048) (d : Fin 1024) :
    k0_pay1 c0 c1 w0 w1 (firstExpert (grid0.coords t)) y0 w z (ix2 u d)
      = ∑ j : Fin 2, ∑ p : Fin 160, ((if a u = expertOf t j ∧ placeA a u = p.val then (w0 (ix2 u 0) : EReal) else 0)
          + (if b u = expertOf t j ∧ placeB a b u = p.val then (w1 (ix2 u 0) : EReal) else 0)) * y j p d := by
  unfold k0_pay1
  refine (combine_product _ _ u d).trans ((sum_lanes _).trans ?_)
  refine Finset.sum_congr rfl fun j _ => Finset.sum_congr rfl fun p _ => ?_
  have pick : ∀ (c : Vec Ideal S2048x1 .i32) (v : Vec Ideal S2048x1 .f32) (a : Fin 64) (q : ℕ), c (ix2 u 0) = slotWord a q →
      (select (cmpi .eq (addi (iota .tc S2048x320 32 [1] iota_S2048x320_d1_w32) (broadcast S2048x320 (Scalar.muli (firstExpert (grid0.coords t)) 160#32)))
          (broadcastTo S2048x320 c broadcasts_S2048x1_S2048x320))
        (broadcastTo S2048x320 (shapeCast S2048x1 v shapeCasts_S2048x1_S2048x1) broadcasts_S2048x1_S2048x320)
        (broadcast S2048x320 (Scalar.ofBits .f32 0x00000000#32 : Ideal .f32)) : FVec Ideal S2048x320 .f32) (ix2 u (lane j p))
        = if a = expertOf t j ∧ q = p.val then (v (ix2 u 0) : EReal) else 0 := by
    intro c v a q hc
    rw [select_apply, spreadCol, shapeCast_self, broadcast_apply]
    have e0 : (cmpi .eq (addi (iota .tc S2048x320 32 [1] iota_S2048x320_d1_w32) (broadcast S2048x320 (Scalar.muli (firstExpert (grid0.coords t)) 160#32)))
        (broadcastTo S2048x320 c broadcasts_S2048x1_S2048x320)) (ix2 u (lane j p)) = BitVec.ofBool (decide (a = expertOf t j ∧ q = p.val)) := by
      show IntOp.cmpi .eq (IntOp.addi (iota .tc S2048x320 32 [1] iota_S2048x320_d1_w32 (ix2 u (lane j p))) _) (broadcastTo S2048x320 _ _ (ix2 u (lane j p))) = _
      rw [spreadCol, hc, iota_single_apply, broadcast_apply]
      exact slot_compare t j p a q
    rw [e0, show (Scalar.ofBits .f32 0x00000000#32 : Ideal .f32) = (0 : EReal) from Ideal.ofBits_zero_f32]
    by_cases h : a = expertOf t j ∧ q = p.val
    · rw [if_pos h, decide_eq_true h]; rfl
    · rw [if_neg h, decide_eq_false h]; rfl
  have rows : (concatenate S320x1024 0 [⟨S160x1024, y0⟩, ⟨S160x1024, matmul dot_S160x512_S1024x512_S160x1024_1_1_0_0_n_n none z w
      (constant S160x1024 .f32 0x00000000#32)⟩] concatenates_S160x1024_S160x1024_S320x1024_d0 : FVec Ideal S320x1024 .f32) (ix2 (lane j p) d) = y j p d := by
    have hj : j = 0 ∨ j = 1 := by have := j.isLt; rcases Nat.lt_or_ge j.val 1 with h | h
                                  · left; apply Fin.ext; show j.val = 0; omega
                                  · right; apply Fin.ext; show j.val = 1; omega
    rcases hj with rfl | rfl
    · rw [concatenate_pair_apply_left (t := S320x1024) (s₁ := S160x1024) (s₂ := S160x1024) 0 _ _ _ _ rfl (ix2 p d), hy0]
      intro b
      match b with
      | ⟨0, _⟩ => show p.val = 160 * 0 + p.val; omega
      | ⟨1, _⟩ => rfl
    · rw [concatenate_pair_apply_right (t := S320x1024) (s₁ := S160x1024) (s₂ := S160x1024) 0 _ _ _ _ rfl rfl (ix2 p d)]
      · exact (down_product z w p d).trans (hy1 p d)
      · intro b hb
        match b with
        | ⟨0, _⟩ => exact absurd rfl hb
        | ⟨1, _⟩ => rfl
      · show p.val + 160 = 160 * 1 + p.val; omega
  exact congrArg₂ (· * ·) (congrArg₂ (· + ·) (pick c0 w0 (a u) _ (h0 u)) (pick c1 w1 (b u) _ (h1 u))) rows

/-! ## One point, and all of them -/

variable (m : (ℓ : Loc nD τ sig) → Buf (Elt Ideal) ℓ) (c : Dev nD)

/-- The arguments as functions of coordinates. -/
def argX (t : Fin 2048) (d : Fin 1024) : EReal := (m ((c : Thread nD τ).loc main_arg0) : Vec Ideal S2048x1024 .f32) (ix2 t d)
def argL : Vec Ideal S2048x64 .f32 := m ((c : Thread nD τ).loc main_arg1)
def argS (e : Fin 64) : EReal := (m ((c : Thread nD τ).loc main_arg2) : Vec Ideal S64 .f32) (ix1 e)
def argW1 (e : Fin 64) (f : Fin 512) (k : Fin 1024) : EReal := (m ((c : Thread nD τ).loc main_arg3) : Vec Ideal S64x512x1024 .f32) (ix3 e f k)
def argW3 (e : Fin 64) (f : Fin 512) (k : Fin 1024) : EReal := (m ((c : Thread nD τ).loc main_arg4) : Vec Ideal S64x512x1024 .f32) (ix3 e f k)
def argW2 (e : Fin 64) (d : Fin 1024) (f : Fin 512) : EReal := (m ((c : Thread nD τ).loc main_arg5) : Vec Ideal S64x1024x512 .f32) (ix3 e d f)

/-- The scale, cast to a row, at an expert. -/
theorem scale_row (e : Fin 64) : (shapeCast S1x64 (m ((c : Thread nD τ).loc main_arg2) : Vec Ideal S64 .f32) shapeCasts_S64_S1x64) (ix2 0 e) = argS m c e :=
  toRow _ _ 0 e

/-- What point `t` adds to token `u`. -/
theorem addedAt_apply (hl : ∀ t e, scores (argL m c) t e ≠ ⊥) (t : Fin cfg0.N) (u : Fin 2048) (d : Fin 1024) :
    addedAt m c t (ix2 u d) = ∑ j : Fin 2, ∑ p : Fin 160,
      ((if choiceA (argL m c) u = expertOf t j ∧ placeA (choiceA (argL m c)) u = p.val then weightA (scores (argL m c) u) (argS m c) else 0)
        + (if choiceB (argL m c) u = expertOf t j ∧ placeB (choiceA (argL m c)) (choiceB (argL m c)) u = p.val
            then weightB (scores (argL m c) u) (argS m c) else 0))
      * expert (choiceA (argL m c)) (choiceB (argL m c)) (argX m c) (argW1 m c) (argW3 m c) (argW2 m c) (expertOf t j) p.val d := by
  have hs : (fun e => (shapeCast S1x64 (m ((c : Thread nD τ).loc main_arg2) : Vec Ideal S64 .f32) shapeCasts_S64_S1x64) (ix2 0 e)) = argS m c :=
    funext fun e => scale_row m c e
  have hrow0 : ∀ u, asRow (slots0 (argL m c)) (ix2 0 u) = slotWord (choiceA (argL m c) u) (placeA (choiceA (argL m c)) u) := fun u => by
    unfold asRow; rw [toRow, slots0_apply]
  have hrow1 : ∀ u, asRow (slots1 (argL m c)) (ix2 0 u) = slotWord (choiceB (argL m c) u) (placeB (choiceA (argL m c)) (choiceB (argL m c)) u) := fun u => by
    unfold asRow; rw [toRow, slots1_apply _ hl]
  have hcol0 : ∀ u, asCol (slots0 (argL m c)) (ix2 u 0) = slotWord (choiceA (argL m c) u) (placeA (choiceA (argL m c)) u) := fun u => by
    unfold asCol; rw [shapeCast_self, toCol, slots0_apply]
  have hcol1 : ∀ u, asCol (slots1 (argL m c)) (ix2 u 0) = slotWord (choiceB (argL m c) u) (placeB (choiceA (argL m c)) (choiceB (argL m c)) u) := fun u => by
    unfold asCol; rw [shapeCast_self, toCol, slots1_apply _ hl]
  have hbuf : ∀ (j : Fin 2) (p : Fin 160), (fun k => k0_pay34 (grid0.coords t) (asRow (slots0 (argL m c))) (asRow (slots1 (argL m c))) (iblk m c 2 t) (ix2 (lane j p) k))
      = buffer (choiceA (argL m c)) (choiceB (argL m c)) (argX m c) (expertOf t j) p.val := fun j p => funext fun k => by
    refine (pay34_apply t _ _ _ _ _ (fun u => second_ne _) hrow0 hrow1 j p k).trans ?_
    rw [block2]; rfl
  have hp : ∀ (j : Fin 2) (h : ∀ x, (![j.val, 0, 0] : Fin 3 → ℕ) x + S1x512x1024.size x ≤ S2x512x1024.size x),
      (fun (f : Fin 512) (k : Fin 1024) => planeOf j.val h (iblk m c 3 t : Vec Ideal S2x512x1024 .f32) (ix3 0 f k)) = argW1 m c (expertOf t j) := fun j h =>
    funext fun f => funext fun k => (planeOf_apply j h _ f k).trans (block3 m c t j f k)
  have hq : ∀ (j : Fin 2) (h : ∀ x, (![j.val, 0, 0] : Fin 3 → ℕ) x + S1x512x1024.size x ≤ S2x512x1024.size x),
      (fun (f : Fin 512) (k : Fin 1024) => planeOf j.val h (iblk m c 4 t : Vec Ideal S2x512x1024 .f32) (ix3 0 f k)) = argW3 m c (expertOf t j) := fun j h =>
    funext fun f => funext fun k => (planeOf_apply j h _ f k).trans (block4 m c t j f k)
  have ho : ∀ (j : Fin 2) (h : ∀ x, (![j.val, 0, 0] : Fin 3 → ℕ) x + S1x1024x512.size x ≤ S2x1024x512.size x),
      (fun (d : Fin 1024) (f : Fin 512) => downOf j.val h (iblk m c 5 t : Vec Ideal S2x1024x512 .f32) (ix3 0 d f)) = argW2 m c (expertOf t j) := fun j h =>
    funext fun d => funext fun f => (downOf_apply j h _ d f).trans (block5 m c t j d f)
  have e := pay1_apply t (asCol (slots0 (argL m c))) (asCol (slots1 (argL m c)))
    (weights0 (shapeCast S1x64 (m ((c : Thread nD τ).loc main_arg2) : Vec Ideal S64 .f32) shapeCasts_S64_S1x64) (argL m c))
    (weights1 (shapeCast S1x64 (m ((c : Thread nD τ).loc main_arg2) : Vec Ideal S64 .f32) shapeCasts_S64_S1x64) (argL m c))
    (choiceA (argL m c)) (choiceB (argL m c)) hcol0 hcol1
    (k0_pay37 (k0_pay35 (grid0.coords t) (asRow (slots0 (argL m c))) (asRow (slots1 (argL m c))) (iblk m c 2 t))
      (k0_pay36 (planeOf 0 inb_S2x512x1024_S1x512x1024_0_0_0 (iblk m c 3 t))) (planeOf 0 inb_S2x512x1024_S1x512x1024_0_0_0 (iblk m c 4 t))
      (downOf 0 inb_S2x1024x512_S1x1024x512_0_0_0 (iblk m c 5 t)))
    (k0_pay38 (downOf 1 inb_S2x1024x512_S1x1024x512_1_0_0 (iblk m c 5 t)))
    (k0_pay39 (k0_pay34 (grid0.coords t) (asRow (slots0 (argL m c))) (asRow (slots1 (argL m c))) (iblk m c 2 t))
      (planeOf 1 inb_S2x512x1024_S1x512x1024_1_0_0 (iblk m c 3 t)) (planeOf 1 inb_S2x512x1024_S1x512x1024_1_0_0 (iblk m c 4 t)))
    (fun j p d => expert (choiceA (argL m c)) (choiceB (argL m c)) (argX m c) (argW1 m c) (argW3 m c) (argW2 m c) (expertOf t j) p.val d)
    (fun p d => by
      rw [pay37_apply]
      unfold expert
      have hb0 : (fun k => k0_pay35 (grid0.coords t) (asRow (slots0 (argL m c))) (asRow (slots1 (argL m c))) (iblk m c 2 t) (ix2 p k))
          = buffer (choiceA (argL m c)) (choiceB (argL m c)) (argX m c) (expertOf t 0) p.val := by
        rw [← hbuf 0 p]
        funext k
        unfold k0_pay35
        refine extractStridedSlice_apply _ _ _ _ _ fun a => ?_
        match a with
        | ⟨0, _⟩ => show 160 * 0 + p.val = 0 + p.val; omega
        | ⟨1, _⟩ => exact (Nat.zero_add _).symm
      rw [hb0]
      exact congrArg₂ (fun w2 h => linear w2 h d) (ho 0 _) (congrArg₂ (fun w1 w3 => hidden w1 w3 _) (hp 0 _) (hq 0 _)))
    (fun p d => by
      unfold expert linear
      refine Finset.sum_congr rfl fun f _ => ?_
      rw [pay39_apply]
      refine congrArg₂ (· * ·) ?_ ?_
      · have hb1 := hbuf 1 p
        rw [show lane 1 p = (⟨160 + p.val, by have := p.isLt; omega⟩ : Fin 320) from Fin.ext (by show 160 * 1 + p.val = 160 + p.val; omega)] at hb1
        rw [hb1]
        exact congrArg₂ (fun w1 w3 => hidden w1 w3 _ f) (hp 1 _) (hq 1 _)
      · unfold k0_pay38
        exact (plane_apply _ _ d f).trans (congrFun (congrFun (ho 1 _) d) f))
    u d
  rw [weights0_apply, weights1_apply _ hl, hs] at e
  exact e

end Cert.KernelIdeal.Step
end
-- ==== Proof.KernelValue.lean ====
/- The kernel's result is the layer. -/
module

public import proofs.«01_k».proof.Proof.KernelStep

@[expose] public section

set_option maxRecDepth 16384

noncomputable section

open Idealize.ShloMosaic Idealize.ShloMosaic.TcCoe Idealize.ShloMosaic.ValueIdx Idealize.ShloMosaic.Routing
open scoped BigOperators

namespace Cert.KernelIdeal.Step

open Cert.KernelIdeal Cert.KernelIdeal.Gen Cert.KernelIdeal.Body Cert.KernelIdeal.Routing Cert.KernelIdeal.Fold Moe

variable (m : (ℓ : Loc nD τ sig) → Buf (Elt Ideal) ℓ) (c : Dev nD)

/-- The running sum at an entry is the sum of the additions there. -/
theorem addedUpTo_apply (i : S2048x1024.Idx) : ∀ (n : ℕ) (h : n < cfg0.N),
    addedUpTo m c n h i = ∑ k ∈ Finset.range (n + 1), if hk : k < cfg0.N then (addedAt m c ⟨k, hk⟩ i : EReal) else 0
  | 0, h => by
    rw [Finset.sum_range_one, dif_pos h]
    rfl
  | n + 1, h => by
    rw [Finset.sum_range_succ, dif_pos h, ← addedUpTo_apply i n (Nat.lt_of_succ_lt h)]
    rfl

/-- A sum over the points and their two experts is a sum over the experts. -/
theorem sum_experts (f : Fin 64 → EReal) :
    (∑ k ∈ Finset.range 32, if hk : k < cfg0.N then ∑ j : Fin 2, f (expertOf ⟨k, hk⟩ j) else 0) = ∑ e, f e := by
  have h1 : (∑ k ∈ Finset.range 32, if hk : k < cfg0.N then ∑ j : Fin 2, f (expertOf ⟨k, hk⟩ j) else 0)
      = ∑ t : Fin 32, ∑ j : Fin 2, f (finProdFinEquiv (t, j)) := by
    rw [← Fin.sum_univ_eq_sum_range (fun k => if hk : k < cfg0.N then ∑ j : Fin 2, f (expertOf ⟨k, hk⟩ j) else 0) 32]
    refine Finset.sum_congr rfl fun t _ => ?_
    rw [dif_pos (lt_of_lt_of_eq t.isLt N_0.symm)]
    refine Finset.sum_congr rfl fun j _ => congrArg f (Fin.ext ?_)
    show 2 * t.val + j.val = j.val + 2 * t.val
    omega
  rw [h1]
  refine (Fintype.sum_prod_type' (fun (t : Fin 32) (j : Fin 2) => f (finProdFinEquiv (t, j)))).symm.trans ?_
  exact Fintype.sum_equiv finProdFinEquiv (fun x : Fin 32 × Fin 2 => f (finProdFinEquiv (x.1, x.2))) f fun x => rfl

/-- The kernel's result at token `u` is the layer there, when no score is minus infinity. -/
theorem value (hl : ∀ t e, scores (argL m c) t e ≠ ⊥) (u : Fin 2048) (d : Fin 1024) :
    (Value.G6 m c : Vec Ideal S1x2048x1024 .f32) (ix3 0 u d)
      = layer (argX m c) (scores (argL m c)) (argS m c) (argW1 m c) (argW3 m c) (argW2 m c) u d := by
  rw [result]
  have e0 : shapeCast S1x2048x1024 (addedUpTo m c 31 (lt_of_lt_of_eq (by decide) N_0.symm)) shapeCasts_S2048x1024_S1x2048x1024 (ix3 0 u d)
      = addedUpTo m c 31 (lt_of_lt_of_eq (by decide) N_0.symm) (ix2 u d) := by
    refine shapeCast_apply _ _ _ _ ?_
    rw [Shape.rowMajor_val_two, Shape.rowMajor_val_three]
    show u.val * 1024 + d.val = (0 * 2048 + u.val) * 1024 + d.val
    omega
  refine e0.trans ((addedUpTo_apply m c (ix2 u d) 31 _).trans ?_)
  unfold layer
  rw [mixed_eq_sum _ _ _ _ _ u d (second_ne _), ← sum_experts]
  refine Finset.sum_congr rfl fun k _ => ?_
  by_cases hk : k < cfg0.N
  · rw [dif_pos hk, dif_pos hk]
    exact addedAt_apply m c hl ⟨k, hk⟩ u d
  · rw [dif_neg hk, dif_neg hk]

end Cert.KernelIdeal.Step
end
-- ==== Proof.RefChoice.lean ====
/- The reference's two choices of a token: the first two places of its stable descending sort of the scores. -/
module

public import proofs.«01_k».proof.Proof.Words
public import proofs.«01_k».proof.Proof.Gen.ReferenceIdeal.Read
public import Idealize.ShloMosaic.Lib.SortPrefix

@[expose] public section

set_option maxRecDepth 16384

noncomputable section

open Idealize.ShloMosaic Idealize.ShloMosaic.ValueIdx Idealize.ShloMosaic.Routing Moe Cert.ReferenceIdeal
open scoped BigOperators

namespace Moe

/-- Two orders that list the positions alike sort alike. -/
theorem sortedFrom_of_positions {n : ℕ} (R R' : Fin n → Fin n → Bool) (h : sortPositions n R = sortPositions n R') :
    sortedFrom R = sortedFrom R' := by
  funext k
  unfold sortedFrom
  rw [List.get_of_eq h]
  rfl

/-- An index along the second axis of a matrix. -/
theorem along_one {n m : ℕ} (t : Fin n) (e k : Fin m) : Shape.Idx.along (s := shape2 n m) (ix2 t e) 1 k = ix2 t k := by
  unfold Shape.Idx.along
  funext a
  match a with
  | ⟨0, _⟩ => rfl
  | ⟨1, _⟩ => rfl

/-- The indices of a matrix's greatest entries by rows are the positions that the row's stable sort puts first. -/
theorem topK_index {α : Type} {n m k : ℕ} (gt : α → α → BitVec 1) (x : (shape2 n m).Idx → α)
    (h : (shape2 n m).Slices (fun _ => 0) (shape2 n k)) (hk : k ≤ m) (t : Fin n) (j : Fin k) :
    (Host.topK (shape2 n k) 1 gt x h).2 (ix2 t j)
      = BitVec.ofNat 32 (sortedFrom (fun a b => gt (x (ix2 t a)) (x (ix2 t b)) == 1#1) (j.castLE hk)).val := by
  unfold Host.topK
  dsimp only
  rw [extractStridedSlice_apply _ _ _ (ix2 t j) (ix2 t (j.castLE hk)) (fun a => by
    match a with
    | ⟨0, _⟩ => exact (Nat.zero_add _).symm
    | ⟨1, _⟩ => exact (Nat.zero_add _).symm)]
  unfold Host.sort2
  have h1 : 1 < (shape2 n m).rank := Nat.one_lt_two
  rw [dif_pos h1]
  have e : ∀ a : Fin m, Shape.Idx.along (s := shape2 n m) (ix2 t (j.castLE hk)) ⟨1, h1⟩ a = ix2 t a := along_one t _
  dsimp only
  rw [dif_pos h1]
  have e2 := congrArg (fun f : (Fin m → (shape2 n m).Idx) =>
    BitVec.ofNat 32 (sortedFrom (fun a b => gt (x (f a)) (x (f b)) == 1#1) (j.castLE hk)).val) (funext e)
  refine Eq.trans ?_ e2
  show iotaInDim (shape2 n m) 32 ⟨1, h1⟩ _ = _
  rw [iotaInDim_apply]
  refine congrArg (BitVec.ofNat 32) ?_
  unfold Shape.Idx.along
  rw [Function.update_self]
  rfl

/-- The sort's order on the experts: the one with the greater score first. -/
def higher (l : Fin 64 → EReal) (a b : Fin 64) : Bool := FloatOps.cmpfTotal (F := Ideal) (φ := .f32) .gt (l a) (l b) == 1#1

theorem higher_eq (l : Fin 64 → EReal) (a b : Fin 64) : higher l a b = decide (l b < l a) := by
  unfold higher
  show (BitVec.ofBool (decide (l b < l a)) == 1#1) = _
  by_cases h : l b < l a <;> simp [h]

/-- The stable order: the greater score first, then the lesser number. -/
def stably (l : Fin 64 → EReal) (a b : Fin 64) : Bool := decide (l b < l a) || (decide (l a = l b) && decide (a < b))

theorem stably_total (l : Fin 64 → EReal) : StrictTotalBefore (stably l) :=
  StrictTotalBefore.of_key_then_position (fun x y : EReal => decide (y < x)) l (fun a => by simp)
    (fun a b c h k => by simp only [decide_eq_true_eq] at h k ⊢; exact k.trans h)
    (fun a b => by simp only [decide_eq_true_eq]; rcases lt_trichotomy a b with h | h | h <;> simp [h])

/-- On experts listed in order, the sort by score alone is the sort by score and then number. -/
theorem stableSort_higher (l : Fin 64 → EReal) (m : List (Fin 64)) (hm : m.Pairwise (· < ·)) :
    stableSort (higher l) m = stableSort (stably l) m := by
  induction m with
  | nil => rfl
  | cons a m ih =>
    rw [List.pairwise_cons] at hm
    unfold stableSort
    rw [ih hm.2]
    refine insertBefore_congr _ _ a _ fun b hb => ?_
    have hab : a < b := hm.1 b ((perm_stableSort (stably l) m).mem_iff.mp hb)
    rw [higher_eq]
    unfold stably
    rw [decide_eq_false (not_lt.mpr hab.le), Bool.and_false, Bool.or_false]

/-- An expert ranked no later is not sorted later. -/
theorem stably_false {l : Fin 64 → EReal} {a e : Fin 64} (h : Ahead l a e) : stably l e a = false := by
  unfold stably
  rcases h with h | ⟨h, h'⟩
  · rw [decide_eq_false (not_lt.mpr h.le), decide_eq_false h.ne]; rfl
  · rw [decide_eq_false (not_lt.mpr h.le), decide_eq_false (not_lt.mpr h')]; simp

/-- The two choices, as one function of the place. -/
def pick (l : Fin 64 → EReal) (k : Fin 2) : Fin 64 := if k = 0 then first l else second l

theorem pick_zero (l : Fin 64 → EReal) : pick l 0 = first l := rfl
theorem pick_one (l : Fin 64 → EReal) : pick l 1 = second l := rfl

/-- The first two places of the sort are the two choices. -/
theorem sortedFrom_higher (l : Fin 64 → EReal) (k : Fin 2) : sortedFrom (higher l) (k.castLE (by decide)) = pick l k := by
  have e : sortedFrom (higher l) = sortedFrom (stably l) := by
    refine sortedFrom_of_positions _ _ ?_
    unfold sortPositions
    exact stableSort_higher l _ (List.pairwise_lt_finRange 64)
  rw [e]
  refine (stably_total l).sortedFrom_eq_of_prefix (by decide) (pick l) ?_ ?_ ?_ k
  · intro i j h
    fin_cases i <;> fin_cases j
    · rfl
    · exact absurd h.symm (second_ne l)
    · exact absurd h (second_ne l)
    · rfl
  · intro i j h
    fin_cases i <;> fin_cases j
    · exact absurd h (lt_irrefl _)
    · exact stably_false ((first_leads l).2 _ trivial)
    · exact absurd h (by decide)
    · exact absurd h (lt_irrefl _)
  · intro i p h
    fin_cases i
    · exact stably_false ((first_leads l).2 _ trivial)
    · exact stably_false ((second_leads l).2 _ (fun hp => h 0 hp.symm))

end Moe

namespace Cert.ReferenceIdeal.Layer

open Cert.ReferenceIdeal.Read

/-- A token's scores. -/
def logits (x1 : Vec Ideal S2048x64 .f32) (t : Fin 2048) (e : Fin 64) : EReal := x1 (ix2 t e)

/-- The two sorted-first indices of a token are the words of its choices. -/
theorem indices_apply (x1 : Vec Ideal S2048x64 .f32) (t : Fin 2048) (k : Fin 2) :
    val_main_indices (F := Ideal) x1 (ix2 t k) = BitVec.ofNat 32 (pick (logits x1 t) k).val := by
  rw [← sortedFrom_higher]
  exact topK_index (n := 2048) (m := 64) (k := 2) _ x1 _ (by decide) t k

end Cert.ReferenceIdeal.Layer
end
-- ==== Proof.Softmax.lean ====
/- The softmax over all experts, cut down to the two chosen ones and made to sum to one again, is the softmax over those two. -/
module

public import proofs.«01_k».proof.Proof.RefChoice

@[expose] public section

set_option maxRecDepth 16384

noncomputable section

open Idealize.ShloMosaic
open scoped BigOperators

namespace Moe

/-- An expert's softmax share among all. -/
def share (l : Fin 64 → EReal) (e : Fin 64) : EReal :=
  Ideal.div (Ideal.exp (l e - l (first l))) (∑ e', Ideal.exp (l e' - l (first l)))

/-- The share where the expert is chosen, and zero elsewhere. -/
def kept (l : Fin 64 → EReal) (e : Fin 64) : EReal := (∑ k : Fin 2, if pick l k = e then (1 : EReal) else 0) * share l e

theorem kept_first (l : Fin 64 → EReal) : kept l (first l) = share l (first l) := by
  unfold kept
  rw [Fin.sum_univ_two, pick_zero, pick_one, if_pos rfl, if_neg (second_ne l), add_zero, one_mul]

theorem kept_second (l : Fin 64 → EReal) : kept l (second l) = share l (second l) := by
  unfold kept
  rw [Fin.sum_univ_two, pick_zero, pick_one, if_pos rfl, if_neg (second_ne l).symm, zero_add, one_mul]

theorem kept_other (l : Fin 64 → EReal) (e : Fin 64) (h : e ≠ first l) (h' : e ≠ second l) : kept l e = 0 := by
  unfold kept
  rw [Fin.sum_univ_two, pick_zero, pick_one, if_neg h.symm, if_neg h'.symm, add_zero, zero_mul]

/-- What is kept sums to the two shares. -/
theorem sum_kept (l : Fin 64 → EReal) : ∑ e, kept l e = share l (first l) + share l (second l) := by
  classical
  rw [← Finset.add_sum_erase _ _ (Finset.mem_univ (first l)), kept_first,
    Finset.sum_eq_single_of_mem (second l) (Finset.mem_erase.mpr ⟨second_ne l, Finset.mem_univ _⟩)
      (fun e he h => kept_other l e (Finset.mem_erase.mp he).1 h), kept_second]

/-- A finite sum of reals, taken among the extended reals. -/
theorem coe_sum {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- The softmax's denominator, for real scores. -/
def mass (r : Fin 64 → ℝ) (m : ℝ) : ℝ := ∑ e, Real.exp (r e - m)

theorem mass_pos (r : Fin 64 → ℝ) (m : ℝ) : 0 < mass r m := Finset.sum_pos (fun e _ => Real.exp_pos _) ⟨0, Finset.mem_univ _⟩

/-- A share, for real scores. -/
theorem share_real {l : Fin 64 → EReal} {r : Fin 64 → ℝ} (hr : ∀ e, l e = r e) (e : Fin 64) :
    share l e = ((Real.exp (r e - r (first l)) / mass r (r (first l)) : ℝ) : EReal) := by
  unfold share
  have h : ∀ e, Ideal.exp (l e - l (first l)) = ((Real.exp (r e - r (first l)) : ℝ) : EReal) := fun e => by
    rw [hr e, hr (first l), ← EReal.coe_sub, Ideal.exp_coe]
  rw [h, Finset.sum_congr rfl (fun e _ => h e), coe_sum]
  show Ideal.div _ ((mass r (r (first l)) : ℝ) : EReal) = _
  rw [Ideal.div_coe (ne_of_gt (mass_pos r _)), ← EReal.coe_mul, mul_one_div]

/-- The second choice's share against the first's, for real scores. -/
theorem odds_real {l : Fin 64 → EReal} {r : Fin 64 → ℝ} (hr : ∀ e, l e = r e) :
    odds l = ((Real.exp (r (second l) - r (first l)) : ℝ) : EReal) := by
  unfold odds
  rw [hr (second l), hr (first l), ← EReal.coe_sub, Ideal.exp_coe]

/-- What is kept sums to a positive number, for real scores. -/
theorem sum_kept_pos {l : Fin 64 → EReal} {r : Fin 64 → ℝ} (hr : ∀ e, l e = r e) : 0 < ∑ e, kept l e := by
  rw [sum_kept, share_real hr, share_real hr, ← EReal.coe_add, EReal.coe_pos]
  exact add_pos (div_pos (Real.exp_pos _) (mass_pos _ _)) (div_pos (Real.exp_pos _) (mass_pos _ _))

/-- The first choice's part of what is kept. -/
theorem part_first {l : Fin 64 → EReal} {r : Fin 64 → ℝ} (hr : ∀ e, l e = r e) :
    Ideal.div (kept l (first l)) (∑ e, kept l e) = Ideal.div 1 (1 + odds l) := by
  have hm := mass_pos r (r (first l))
  have h2 := Real.exp_pos (r (second l) - r (first l))
  rw [sum_kept, kept_first, share_real hr, share_real hr, odds_real hr, ← EReal.coe_add,
    Ideal.div_coe (ne_of_gt (add_pos (div_pos (Real.exp_pos _) hm) (div_pos h2 hm))), ← EReal.coe_mul,
    ← EReal.coe_one, ← EReal.coe_add, Ideal.div_coe (ne_of_gt (add_pos one_pos h2)), ← EReal.coe_mul]
  refine congrArg _ ?_
  rw [sub_self, Real.exp_zero]
  field_simp

/-- The second choice's part of what is kept. -/
theorem part_second {l : Fin 64 → EReal} {r : Fin 64 → ℝ} (hr : ∀ e, l e = r e) :
    Ideal.div (kept l (second l)) (∑ e, kept l e) = Ideal.div (odds l) (1 + odds l) := by
  have hm := mass_pos r (r (first l))
  have h2 := Real.exp_pos (r (second l) - r (first l))
  rw [sum_kept, kept_second, share_real hr, share_real hr, odds_real hr, ← EReal.coe_add,
    Ideal.div_coe (ne_of_gt (add_pos (div_pos (Real.exp_pos _) hm) (div_pos h2 hm))), ← EReal.coe_mul,
    ← EReal.coe_one, ← EReal.coe_add, Ideal.div_coe (ne_of_gt (add_pos one_pos h2)), ← EReal.coe_mul]
  refine congrArg _ ?_
  rw [sub_self, Real.exp_zero]
  field_simp

end Moe
end
-- ==== Proof.RefWeights.lean ====
/- The reference's weights of a token's two choices. -/
module

public import proofs.«01_k».proof.Proof.Softmax
public import Idealize.ShloMosaic.Lib.KernelVsHost
public import Idealize.ShloMosaic.Lib.Routing.OpsPair

@[expose] public section

set_option maxRecDepth 16384

noncomputable section

open Idealize.ShloMosaic Idealize.ShloMosaic.ValueIdx Idealize.ShloMosaic.Routing Moe Cert.ReferenceIdeal Cert.ReferenceIdeal.Read
open scoped BigOperators

namespace Cert.ReferenceIdeal.Layer

variable (x1 : Vec Ideal S2048x64 .f32)

theorem zero_f32 : (FloatOps.ofBits .f32 0x00000000#32 : Ideal .f32) = (0 : EReal) := Ideal.ofBits_zero_f32
theorem one_f32 : (FloatOps.ofBits .f32 0x3F800000#32 : Ideal .f32) = (1 : EReal) := Ideal.ofBits_one_f32
theorem bot_f32 : (FloatOps.ofBits .f32 0xFF800000#32 : Ideal .f32) = (⊥ : EReal) := by
  show Ideal.ofBits .f32 0xFF800000#32 = ⊥
  simp [Ideal.ofBits, Ideal.ieee]

/-- The row's greatest score is the first choice's. -/
theorem v0_apply (t : Fin 2048) : val_main_v0 (F := Ideal) x1 (ix1 t) = logits x1 t (first (logits x1 t)) := by
  unfold val_main_v0 val_main_cst
  refine (congrFun (hostReduce_maximumf_eq_multiReduction (F := Ideal) (φ := .f32) x1 0xFF800000#32 Gen.reducesTo_S2048x64_S2048_d1
    Gen.h_S_ (by decide) (Or.inl rfl) rfl) (ix1 t)).trans ?_
  exact rowMax (n := 2048) (k := 64) x1 _ _ _ t _ (fun e => le_first (logits x1 t) e)

theorem v2_apply (t : Fin 2048) : val_main_v2 (F := Ideal) x1 (ix1 t) = logits x1 t (first (logits x1 t)) := by
  rw [val_main_v2_apply, v0_apply, val_main_v1_apply, val_main_cst_0_apply, bot_f32]
  exact max_eq_right bot_le

theorem v6_apply (t : Fin 2048) (e : Fin 64) :
    val_main_v6 (F := Ideal) x1 (ix2 t e) = Ideal.exp (logits x1 t e - logits x1 t (first (logits x1 t))) := by
  rw [val_main_v6_apply, val_main_v5_apply, val_main_v4_apply, val_main_v3_apply,
    eq_ix1 (idx_main_v3 (idx_main_v4 (ix2 t e)))]
  have h := v2_apply x1 t
  exact congrArg (fun y : EReal => Ideal.exp (logits x1 t e - y)) h

theorem v10_apply (t : Fin 2048) (e : Fin 64) : val_main_v10 (F := Ideal) x1 (ix2 t e) = share (logits x1 t) e := by
  rw [val_main_v10_apply, v6_apply, val_main_v9_apply, val_main_v8_apply, val_main_v7_apply, val_main_cst_1_apply, zero_f32]
  unfold share
  refine congrArg (Ideal.div _) ?_
  refine (zero_add (_ : EReal)).trans ?_
  refine Finset.sum_congr rfl fun k _ => ?_
  rw [eq_ix2 (idx_main_v7 (idx_main_v8 (idx_main_v9 (ix2 t e))) k)]
  exact v6_apply x1 t k

/-- A one-bit word as a value. -/
theorem value_ofBool (p : Prop) [Decidable p] :
    (FloatOps.uitofp .f32 (BitVec.ofBool (decide p)) : Ideal .f32) = if p then (1 : EReal) else 0 := by
  by_cases h : p
  · rw [if_pos h, decide_eq_true h]
    show (((BitVec.ofBool true).toNat : ℝ) : EReal) = 1
    simp
  · rw [if_neg h, decide_eq_false h]
    show (((BitVec.ofBool false).toNat : ℝ) : EReal) = 0
    simp

theorem word_eq_iff (a e : Fin 64) :
    IntOp.cmpi .eq (BitVec.ofNat 32 a.val) (BitVec.ofNat 32 e.val) = BitVec.ofBool (decide (a = e)) := by
  rw [cmpi_eq_word _ _ (by have := a.isLt; omega) (by have := e.isLt; omega)]
  exact congrArg BitVec.ofBool (decide_eq_decide.mpr Fin.ext_iff.symm)

theorem v11_apply (t : Fin 2048) (k : Fin 2) (e : Fin 64) :
    val_main_v11 (F := Ideal) x1 (ix3 t k e) = if pick (logits x1 t) k = e then (1 : EReal) else 0 := by
  rw [val_main_v11_apply, val_main_call0_v4_apply, val_main_call0_v2_apply, val_main_call0_v0_apply, val_main_call0_v3_apply,
    val_main_call0_v1_apply, eq_ix2 (idx_main_call0_v0 (idx_main_call0_v2 (ix3 t k e)))]
  have h := indices_apply x1 t k
  refine (congrArg (fun w => (FloatOps.uitofp .f32 (IntOp.cmpi .eq w (BitVec.ofNat 32 e.val)) : Ideal .f32)) h).trans ?_
  rw [word_eq_iff, value_ofBool]

theorem v13_apply (t : Fin 2048) (e : Fin 64) : val_main_v13 (F := Ideal) x1 (ix2 t e) = kept (logits x1 t) e := by
  rw [val_main_v13_apply, v10_apply, val_main_v12_apply, val_main_cst_2_apply, zero_f32]
  unfold kept
  refine congrArg (fun y : EReal => y * share (logits x1 t) e) ?_
  refine (zero_add (_ : EReal)).trans ?_
  refine Finset.sum_congr rfl fun k _ => ?_
  rw [eq_ix3 (idx_main_v12 (ix2 t e) k)]
  exact v11_apply x1 t k e

theorem v15_apply (t : Fin 2048) (z : Fin 1) : val_main_v15 (F := Ideal) x1 (ix2 t z) = ∑ e, kept (logits x1 t) e := by
  rw [val_main_v15_apply, val_main_v14_apply, val_main_cst_3_apply, zero_f32]
  refine (zero_add (_ : EReal)).trans ?_
  refine Finset.sum_congr rfl fun k _ => ?_
  rw [eq_ix2 (idx_main_v14 (idx_main_v15 (ix2 t z)) k)]
  exact v13_apply x1 t k

/-- The sum is positive, so it is what the shares are divided by. -/
theorem v19_apply {r : Fin 2048 → Fin 64 → ℝ} (hr : ∀ t e, logits x1 t e = r t e) (t : Fin 2048) (z : Fin 1) :
    val_main_v19 (F := Ideal) x1 (ix2 t z) = ∑ e, kept (logits x1 t) e := by
  have hp : (0 : EReal) < ∑ e, kept (logits x1 t) e := sum_kept_pos (hr t)
  rw [val_main_v19_apply, val_main_v17_apply, val_main_v16_apply, val_main_cst_4_apply, zero_f32, v15_apply]
  have e1 : (FloatOps.cmpf (F := Ideal) (φ := .f32) .ogt (∑ e, kept (logits x1 t) e : EReal) (0 : EReal) : BitVec 1) = 1#1 := by
    show BitVec.ofBool (decide ((0 : EReal) < _)) = 1#1
    rw [decide_eq_true hp]; rfl
  rw [e1]
  rfl

/-- The two choices' shares, made to sum to one. -/
theorem v21_apply {r : Fin 2048 → Fin 64 → ℝ} (hr : ∀ t e, logits x1 t e = r t e) (t : Fin 2048) (e : Fin 64) :
    val_main_v21 (F := Ideal) x1 (ix2 t e) = Ideal.div (kept (logits x1 t) e) (∑ e', kept (logits x1 t) e') := by
  rw [val_main_v21_apply, v13_apply, val_main_v20_apply]
  exact congrArg (Ideal.div _) ((congrArg (val_main_v19 (F := Ideal) x1) (eq_ix2 (idx_main_v20 (ix2 t e)))).trans (v19_apply x1 hr t 0))

/-! ## The share at a choice -/

/-- The word of an expert is not negative, so it is not wrapped. -/
theorem wrap_expert (a : Fin 64) (x : BitVec 32) :
    Scalar.select (IntOp.cmpi .slt (BitVec.ofNat 32 a.val) 0#32) x (BitVec.ofNat 32 a.val) = BitVec.ofNat 32 a.val :=
  wrap_of_lt _ _ (by rw [WordCmp.toNat_ofNat_of_lt (by have := a.isLt; omega)]; have := a.isLt; omega)

theorem call2_v4_apply (t : Fin 2048) (k : Fin 2) :
    val_main_call2_v4 (F := Ideal) x1 (ix2 t k) = BitVec.ofNat 32 (pick (logits x1 t) k).val := by
  rw [val_main_call2_v4_apply, val_main_call2_v1_apply, val_main_call2_v0_apply, val_main_call2_c_apply, indices_apply, wrap_expert]

theorem call2_v5_apply (t : Fin 2048) (k : Fin 2) (z : Fin 1) :
    val_main_call2_v5 (F := Ideal) x1 (ix3 t k z) = BitVec.ofNat 32 (pick (logits x1 t) k).val := by
  rw [val_main_call2_v5_apply]
  have h : idx_main_call2_v5 (ix3 t k z) = ix2 t k := by
    funext a
    refine Fin.ext ?_
    have hz := z.isLt
    have hk := k.isLt
    match a with
    | ⟨0, _⟩ => show ((t.val * 2 + k.val) * 1 + z.val) / 2 = t.val; omega
    | ⟨1, _⟩ => show ((t.val * 2 + k.val) * 1 + z.val) % 2 = k.val; omega
  rw [h, call2_v4_apply]

theorem call2_v11_apply (t : Fin 2048) (k : Fin 2) (z : Fin 1) : val_main_call2_v11 (F := Ideal) x1 (ix3 t k z) = 1#1 := by
  rw [val_main_call2_v11_apply, val_main_call2_v7_apply, val_main_call2_v10_apply, val_main_call2_v6_apply, val_main_call2_v9_apply,
    val_main_call2_v8_apply, val_main_call2_c_1_apply, val_main_call2_c_2_apply, call2_v5_apply]
  have h := (pick (logits x1 t) k).isLt
  rw [show (0#32 : BitVec 32) = BitVec.ofNat 32 0 from rfl, show (63#32 : BitVec 32) = BitVec.ofNat 32 63 from rfl,
    WordCmp.cmpi_sge_ofNat (w := 32) (a := (pick (logits x1 t) k).val) (b := 0) (by omega) (by decide),
    WordCmp.cmpi_sle_ofNat (w := 32) (a := (pick (logits x1 t) k).val) (b := 63) (by omega) (by decide),
    decide_eq_true (Nat.zero_le _), decide_eq_true (by omega)]
  rfl

theorem call2_v12_apply (t : Fin 2048) (k : Fin 2) : val_main_call2_v12 (F := Ideal) x1 (ix2 t k) = 1#1 := by
  unfold val_main_call2_v12
  rw [Host.reduce_eq_foldl]
  have key : ∀ m : List S2048x2x1.Idx,
      m.foldl (fun acc i => IntOp.andi acc (val_main_call2_v11 (F := Ideal) x1 i)) (1#1 : BitVec 1) = 1#1 := by
    intro m
    induction m with
    | nil => rfl
    | cons i m ih =>
      rw [List.foldl_cons]
      have e : val_main_call2_v11 (F := Ideal) x1 i = 1#1 :=
        (congrArg (val_main_call2_v11 (F := Ideal) x1) (eq_ix3 i)).trans (call2_v11_apply x1 _ _ _)
      rw [e]
      exact ih
  exact key _

/-- The gather along a row reads the row's entry at the index word, an expert's. -/
theorem gather_row_entry (y : Vec Ideal S2048x64 .f32) (idx : IVec S2048x2x1 32) (t : Fin 2048) (k : Fin 2) (a : Fin 64)
    (h : idx (ix3 t k 0) = BitVec.ofNat 32 a.val) :
    Host.gather gather_S2048x64_S2048x2x1_S2048x2_n_1_0_0_1_2_11 y idx (ix2 t k) = y (ix2 t a) := by
  have hs : gather_S2048x64_S2048x2x1_S2048x2_n_1_0_0_1_2_11.siIdx (ix2 t k) ⟨0, by decide⟩ = ix3 t k 0 := by
    funext b
    refine Fin.ext ?_
    match b with
    | ⟨0, _⟩ => rfl
    | ⟨1, _⟩ => rfl
    | ⟨2, _⟩ => rfl
  refine congrArg y (funext fun b => Fin.ext ?_)
  have ha := a.isLt
  match b with
  | ⟨0, _⟩ => show 0 + t.val + 0 = t.val; omega
  | ⟨1, _⟩ =>
    show min (idx (gather_S2048x64_S2048x2x1_S2048x2_n_1_0_0_1_2_11.siIdx (ix2 t k) ⟨0, _⟩)).toInt.toNat (64 - 1) + 0 + 0 = a.val
    rw [hs, h, WordCmp.toInt_ofNat_of_lt (by omega)]
    omega

/-- The gather from the scales reads the scale at the index word, an expert's. -/
theorem gather_scale (y : Vec Ideal S64 .f32) (idx : IVec S2048x2x1 32) (t : Fin 2048) (k : Fin 2) (a : Fin 64)
    (h : idx (ix3 t k 0) = BitVec.ofNat 32 a.val) :
    Host.gather gather_S64_S2048x2x1_S2048x2_n_0_n_n_0_2_1 y idx (ix2 t k) = y (ix1 a) := by
  have hs : gather_S64_S2048x2x1_S2048x2_n_0_n_n_0_2_1.siIdx (ix2 t k) ⟨0, by decide⟩ = ix3 t k 0 := by
    funext b
    refine Fin.ext ?_
    match b with
    | ⟨0, _⟩ => rfl
    | ⟨1, _⟩ => rfl
    | ⟨2, _⟩ => rfl
  refine congrArg y (funext fun b => Fin.ext ?_)
  have ha := a.isLt
  match b with
  | ⟨0, _⟩ =>
    show min (idx (gather_S64_S2048x2x1_S2048x2_n_0_n_n_0_2_1.siIdx (ix2 t k) ⟨0, _⟩)).toInt.toNat (64 - 1) + 0 + 0 = a.val
    rw [hs, h, WordCmp.toInt_ofNat_of_lt (by omega)]
    omega

theorem v22_apply (t : Fin 2048) (k : Fin 2) :
    val_main_v22 (F := Ideal) x1 (ix2 t k) = val_main_v21 (F := Ideal) x1 (ix2 t (pick (logits x1 t) k)) := by
  rw [val_main_v22_apply, call2_v12_apply, select_one]
  exact gather_row_entry _ _ t k _ (call2_v5_apply x1 t k 0)

theorem v28_apply (t : Fin 2048) (k : Fin 2) (z : Fin 1) :
    val_main_v28 (F := Ideal) x1 (ix3 t k z) = BitVec.ofNat 32 (pick (logits x1 t) k).val := by
  rw [val_main_v28_apply]
  have h : val_main_v27 (F := Ideal) x1 (ix2 t k) = BitVec.ofNat 32 (pick (logits x1 t) k).val := by
    rw [val_main_v27_apply, val_main_v24_apply, val_main_v23_apply, val_main_c_apply, indices_apply, wrap_expert]
  exact (congrArg (val_main_v27 (F := Ideal) x1) (eq_ix2 (idx_main_v28 (ix3 t k z)))).trans h

/-- The scales as a function of the expert. -/
def scales (x2 : Vec Ideal S64 .f32) (e : Fin 64) : EReal := x2 (ix1 e)

/-- A choice's weight: its share made to sum to one with the other's, times the expert's scale. -/
def weight (l sc : Fin 64 → EReal) (k : Fin 2) : EReal := if k = 0 then weightA l sc else weightB l sc

theorem v30_apply {r : Fin 2048 → Fin 64 → ℝ} (hr : ∀ t e, logits x1 t e = r t e) (x2 : Vec Ideal S64 .f32) (t : Fin 2048) (k : Fin 2) :
    val_main_v30 (F := Ideal) x1 x2 (ix2 t k) = weight (logits x1 t) (scales x2) k := by
  have h29 : val_main_v29 (F := Ideal) x1 x2 (ix2 t k) = scales x2 (pick (logits x1 t) k) :=
    gather_scale x2 _ t k _ (v28_apply x1 t k 0)
  rw [val_main_v30_apply, v22_apply, v21_apply x1 hr, h29]
  fin_cases k
  · exact congrArg (fun y : EReal => y * scales x2 (first (logits x1 t))) (part_first (hr t))
  · exact congrArg (fun y : EReal => y * scales x2 (second (logits x1 t))) (part_second (hr t))

end Cert.ReferenceIdeal.Layer
end
-- ==== Proof.RefPlaces.lean ====
/- The reference's place of each choice in its expert's buffer: the choices in one row, the first ones before the second ones; running sums
   of their indicator words down the row; each choice's sum before it. -/
module

public import proofs.«01_k».proof.Proof.RefWeights

@[expose] public section

set_option maxRecDepth 16384

noncomputable section

open Idealize.ShloMosaic Idealize.ShloMosaic.ValueIdx Idealize.ShloMosaic.Routing Moe Cert.ReferenceIdeal Cert.ReferenceIdeal.Read
open scoped BigOperators

namespace Moe

/-! ## Sums of words -/

/-- A host sum of the rows of a matrix of words, from zero. -/
theorem hostRowSum {n k : ℕ} (v : IVec (shape2 n k) 32) (init : IVec shape0 32) (h : (shape2 n k).ReducesTo [1] (shape1 n))
    (hu : 0 < shape0.numel) (hi : init (Shape.Idx.first hu) = 0#32) (h' : (shape2 n k).Reduces [1] (shape1 n)) (t : Fin n) :
    Host.reduce IntOp.addi v init h hu (ix1 t) = ∑ e : Fin k, v (ix2 t e) := by
  refine Eq.trans ?_ (rowSum v h' rfl t)
  refine Eq.trans ?_ (congrFun (multiReductionI_eq_reduceFold .add v 0#32 h' rfl) (ix1 t)).symm
  rw [Host.reduce_eq_foldl, reduceFold_eq_foldl, hi]
  rfl

/-- A left fold of word addition is a sum. -/
theorem foldl_addi {ι : Type} (l : List ι) (g : ι → BitVec 32) (v : BitVec 32) :
    l.foldl (fun r a => IntOp.addi r (g a)) v = v + (l.map g).sum := by
  induction l generalizing v with
  | nil => simp
  | cons a l ih =>
    rw [List.foldl_cons, ih, List.map_cons, List.sum_cons, ← add_assoc]
    rfl

theorem numel_col (N : ℕ) : (shape2 N 1).numel = N := by
  show ∏ a : Fin 2, (![N, 1] : Fin 2 → ℕ) a = N
  rw [Fin.prod_univ_two]
  exact Nat.mul_one N

/-- Position `n` of a column is its row `n`. -/
theorem symm_col {N : ℕ} (n : Fin (shape2 N 1).numel) : (shape2 N 1).rowMajor.symm n = ix2 (n.cast (numel_col N)) (0 : Fin 1) :=
  ((shape2 N 1).rowMajor.symm_apply_eq).2 (Fin.ext (by
    rw [Shape.rowMajor_val_two]
    show n.val = n.val * 1 + 0
    omega))

/-- A running sum down the columns of a matrix of words, as a host program writes it: a window of the whole height that ends at the row. -/
theorem cumsum_down {N m q : ℕ} (hN : q + 1 = N) (x : IVec (shape2 N m) 32) (g : Fin m → ℕ → BitVec 32)
    (hx : ∀ (i : Fin N) e, x (ix2 i e) = g e i.val) (init : IVec shape0 32)
    (h : (shape2 N m).ReduceWindows (![N, 1] : Fin 2 → ℕ) ![1, 1] ![q, 0] ![0, 0] (shape2 N m)) (hu : 0 < shape0.numel)
    (hi : init (Shape.Idx.first hu) = 0#32) (j : Fin N) (e : Fin m) :
    Host.reduceWindow IntOp.addi ![N, 1] ![1, 1] ![q, 0] ![0, 0] x init h hu (ix2 j e) = window (g e) N j.val := by
  have hj := j.isLt
  unfold Host.reduceWindow
  dsimp only
  rw [hi]
  refine (foldl_addi _ _ _).trans ?_
  rw [show (0#32 : BitVec 32) = 0 from rfl, zero_add]
  refine (congrArg List.sum (List.map_congr_left
    (g := fun n : Fin (shape2 N 1).numel => if q ≤ j.val + n.val then g e (j.val + n.val - q) else 0) fun n _ => ?_)).trans ?_
  · have hw0 : ((shape2 N 1).rowMajor.symm n 0).val = n.val := by rw [symm_col]; rfl
    have hw1 : ((shape2 N 1).rowMajor.symm n 1).val = 0 := by rw [symm_col]; rfl
    have hn : n.val < N := (n.cast (numel_col _)).isLt
    have he := e.isLt
    split
    · next hin =>
      have h0 := hin 0
      change q ≤ j.val * 1 + ((shape2 N 1).rowMajor.symm n 0).val ∧ j.val * 1 + ((shape2 N 1).rowMajor.symm n 0).val - q < N at h0
      rw [hw0] at h0
      rw [if_pos (by omega)]
      refine (congrArg x (funext fun a => Fin.ext ?_)).trans (hx ⟨j.val + n.val - q, by omega⟩ e)
      match a with
      | ⟨0, _⟩ => show j.val * 1 + ((shape2 N 1).rowMajor.symm n 0).val - q = j.val + n.val - q; rw [hw0, Nat.mul_one]
      | ⟨1, _⟩ => show e.val * 1 + ((shape2 N 1).rowMajor.symm n 1).val - 0 = e.val; rw [hw1]; omega
    · next hin =>
      rw [if_neg fun hle => hin fun a => by
        match a with
        | ⟨0, _⟩ =>
          show q ≤ j.val * 1 + ((shape2 N 1).rowMajor.symm n 0).val ∧ j.val * 1 + ((shape2 N 1).rowMajor.symm n 0).val - q < N
          rw [hw0]; omega
        | ⟨1, _⟩ =>
          show 0 ≤ e.val * 1 + ((shape2 N 1).rowMajor.symm n 1).val ∧ e.val * 1 + ((shape2 N 1).rowMajor.symm n 1).val - 0 < m
          rw [hw1]; omega]
  rw [← Fin.sum_univ_def]
  refine (Fin.sum_univ_eq_sum_range (fun n => if q ≤ j.val + n then g e (j.val + n - q) else 0) _).trans ?_
  refine (congrArg (fun M => ∑ n ∈ Finset.range M, if q ≤ j.val + n then g e (j.val + n - q) else 0) (numel_col N)).trans ?_
  unfold window
  rw [← Finset.sum_range_reflect]
  refine Finset.sum_congr rfl fun k hk => ?_
  have hk' := Finset.mem_range.mp hk
  by_cases hc : k ≤ j.val
  · rw [if_pos hc, if_pos (by omega)]
    congr 1
    omega
  · rw [if_neg hc, if_neg (by omega)]

/-! ## The row of all choices -/

/-- Where choice `k` of token `t` stands in the row of all choices. -/
def slot (k : Fin 2) (t : Fin 2048) : Fin 4096 := ⟨k.val * 2048 + t.val, by have := k.isLt; have := t.isLt; omega⟩

/-- A sum over the row is a sum over the tokens of both choices. -/
theorem sum_slots {M : Type} [AddCommMonoid M] (f : Fin 4096 → M) : ∑ i, f i = ∑ t, f (slot 0 t) + ∑ t, f (slot 1 t) := by
  refine (Fin.sum_univ_add (a := 2048) (b := 2048) f).trans ?_
  exact congrArg₂ (· + ·)
    (Finset.sum_congr rfl fun t _ => congrArg f (Fin.ext (by show t.val = 0 * 2048 + t.val; omega)))
    (Finset.sum_congr rfl fun t _ => congrArg f (Fin.ext (by show 2048 + t.val = 1 * 2048 + t.val; omega)))

/-- The place of a choice: the first choices before the second ones. -/
def place (a : Fin 2 → Fin 2048 → Fin 64) (k : Fin 2) (t : Fin 2048) : ℕ := if k = 0 then placeA (a 0) t else placeB (a 0) (a 1) t

end Moe

namespace Cert.ReferenceIdeal.Layer

variable (x1 : Vec Ideal S2048x64 .f32)

/-- The choices of all tokens. -/
def choices (k : Fin 2) (t : Fin 2048) : Fin 64 := pick (logits x1 t) k

theorem slot_div (k : Fin 2) (t : Fin 2048) : (slot k t).val / 2048 = k.val := by
  show (k.val * 2048 + t.val) / 2048 = k.val; have := t.isLt; omega
theorem slot_mod (k : Fin 2) (t : Fin 2048) : (slot k t).val % 2048 = t.val := by
  show (k.val * 2048 + t.val) % 2048 = t.val; have := t.isLt; omega

/-- The row of all choices holds the experts' words. -/
theorem v32_apply (k : Fin 2) (t : Fin 2048) : val_main_v32 (F := Ideal) x1 (ix1 (slot k t)) = BitVec.ofNat 32 (choices x1 k t).val := by
  rw [val_main_v32_apply, val_main_v31_apply]
  have h : idx_main_v31 (idx_main_v32 (ix1 (slot k t))) = ix2 t k := by
    funext a
    refine Fin.ext ?_
    match a with
    | ⟨0, _⟩ => exact slot_mod k t
    | ⟨1, _⟩ => exact slot_div k t
  rw [h, indices_apply]
  rfl

/-- The row of their weights. -/
theorem v34_apply {r : Fin 2048 → Fin 64 → ℝ} (hr : ∀ t e, logits x1 t e = r t e) (x2 : Vec Ideal S64 .f32) (k : Fin 2) (t : Fin 2048) :
    val_main_v34 (F := Ideal) x1 x2 (ix1 (slot k t)) = weight (logits x1 t) (scales x2) k := by
  rw [val_main_v34_apply, val_main_v33_apply]
  have h : idx_main_v33 (idx_main_v34 (ix1 (slot k t))) = ix2 t k := by
    funext a
    refine Fin.ext ?_
    match a with
    | ⟨0, _⟩ => exact slot_mod k t
    | ⟨1, _⟩ => exact slot_div k t
  rw [h, v30_apply x1 hr]

/-- The row of their tokens. -/
theorem v38_apply (k : Fin 2) (t : Fin 2048) : val_main_v38 (F := Ideal) (ix1 (slot k t)) = BitVec.ofNat 32 t.val := by
  rw [val_main_v38_apply, val_main_v37_apply, val_main_v36_apply, val_main_v35_apply]
  refine congrArg (BitVec.ofNat 32) ?_
  show 0 * 2048 + (slot k t).val % 2048 = t.val
  rw [slot_mod]; omega

/-- The indicator words of the choices. -/
theorem v39_apply (k : Fin 2) (t : Fin 2048) (e : Fin 64) :
    val_main_v39 (F := Ideal) x1 (ix2 (slot k t) e) = bit (e = choices x1 k t) := by
  rw [val_main_v39_apply]
  refine widen_bit _ _ ?_
  rw [val_main_call3_v4_apply, val_main_call3_v2_apply, val_main_call3_v0_apply, val_main_call3_v3_apply, val_main_call3_v1_apply]
  have h : val_main_v32 (F := Ideal) x1 (idx_main_call3_v0 (idx_main_call3_v2 (ix2 (slot k t) e))) = BitVec.ofNat 32 (choices x1 k t).val :=
    (congrArg (val_main_v32 (F := Ideal) x1) (eq_ix1 _)).trans (v32_apply x1 k t)
  rw [h]
  refine (word_eq_iff (choices x1 k t) e).trans ?_
  exact congrArg BitVec.ofBool (decide_eq_decide.mpr eq_comm)

/-- Column `e` of the indicator words, by row number. -/
def marks (e : Fin 64) (n : ℕ) : BitVec 32 := if h : n < 4096 then val_main_v39 (F := Ideal) x1 (ix2 (⟨n, h⟩ : Fin 4096) e) else 0

theorem marks_val (e : Fin 64) (i : Fin 4096) : marks x1 e i.val = val_main_v39 (F := Ideal) x1 (ix2 i e) := by
  unfold marks
  rw [dif_pos i.isLt]

/-- The running sum at a row, less the row's own word: the sum of the rows before. -/
theorem v41_apply (i : Fin 4096) (e : Fin 64) :
    val_main_v41 (F := Ideal) x1 (ix2 i e) = ∑ u : Fin 4096, if u < i then val_main_v39 (F := Ideal) x1 (ix2 u e) else 0 := by
  rw [val_main_v41_apply]
  have h : val_main_v40 (F := Ideal) x1 (ix2 i e) = window (marks x1 e) 4096 i.val :=
    cumsum_down (N := 4096) (m := 64) (q := 4095) rfl _ (marks x1) (fun i e => (marks_val x1 e i).symm) _ _ _ rfl i e
  rw [h, ← marks_val]
  refine (window_before (marks x1 e) i).trans ?_
  refine Finset.sum_congr rfl fun u _ => ?_
  rw [marks_val]

/-- Each choice's sum before it is its place. -/
theorem v43_apply (k : Fin 2) (t : Fin 2048) :
    val_main_v43 (F := Ideal) x1 (ix1 (slot k t)) = BitVec.ofNat 32 (place (choices x1) k t) := by
  unfold val_main_v43
  refine (hostRowSum (n := 4096) (k := 64) _ _ _ _ rfl (by decide) (slot k t)).trans ?_
  have h : ∀ e : Fin 64, val_main_v42 (F := Ideal) x1 (ix2 (slot k t) e)
      = val_main_v41 (F := Ideal) x1 (ix2 (slot k t) e) * bit (e = choices x1 k t) := fun e => by
    rw [val_main_v42_apply, v39_apply]; rfl
  refine (Finset.sum_congr rfl fun e _ => h e).trans ?_
  rw [sum_mul_bit (fun e => val_main_v41 (F := Ideal) x1 (ix2 (slot k t) e)), v41_apply, sum_slots]
  have pull : ∀ (q : Prop) [Decidable q] (p : Prop) [Decidable p], (if q then bit p else 0) = bit (q ∧ p) := fun q _ p _ => by
    unfold bit
    by_cases hq : q <;> by_cases hp : p <;> simp [hq, hp]
  simp only [v39_apply, pull]
  rw [sum_bit, sum_bit, ← BitVec.ofNat_add]
  refine congrArg (BitVec.ofNat 32) ?_
  have ht := t.isLt
  unfold place
  obtain rfl | rfl : k = 0 ∨ k = 1 := by omega
  · rw [if_pos rfl]
    unfold placeA
    have e0 : (Finset.univ.filter fun u => slot 1 u < slot 0 t ∧ choices x1 0 t = choices x1 1 u) = ∅ := by
      refine Finset.filter_eq_empty_iff.mpr fun u _ hu => ?_
      have : 1 * 2048 + u.val < 0 * 2048 + t.val := hu.1
      omega
    have e1 : (Finset.univ.filter fun u => slot 0 u < slot 0 t ∧ choices x1 0 t = choices x1 0 u)
        = Finset.univ.filter fun u => u < t ∧ choices x1 0 u = choices x1 0 t := by
      refine Finset.filter_congr fun u _ => and_congr ⟨fun hu => ?_, fun hu => ?_⟩ eq_comm
      · have : 0 * 2048 + u.val < 0 * 2048 + t.val := hu
        exact Fin.lt_def.mpr (by omega)
      · show 0 * 2048 + u.val < 0 * 2048 + t.val
        have := Fin.lt_def.mp hu
        omega
    refine (congrArg₂ (fun A B : Finset (Fin 2048) => A.card + B.card) e1 e0).trans ?_
    rw [Finset.card_empty, Nat.add_zero]
  · rw [if_neg (by decide)]
    unfold placeB
    have e0 : (Finset.univ.filter fun u => slot 1 u < slot 1 t ∧ choices x1 1 t = choices x1 1 u)
        = Finset.univ.filter fun u => u < t ∧ choices x1 1 u = choices x1 1 t := by
      refine Finset.filter_congr fun u _ => and_congr ⟨fun hu => ?_, fun hu => ?_⟩ eq_comm
      · have : 1 * 2048 + u.val < 1 * 2048 + t.val := hu
        exact Fin.lt_def.mpr (by omega)
      · show 1 * 2048 + u.val < 1 * 2048 + t.val
        have := Fin.lt_def.mp hu
        omega
    have e1 : (Finset.univ.filter fun u => slot 0 u < slot 1 t ∧ choices x1 1 t = choices x1 0 u)
        = Finset.univ.filter fun u => choices x1 0 u = choices x1 1 t := by
      refine Finset.filter_congr fun u _ => ⟨fun hu => hu.2.symm, fun hu => ⟨?_, hu.symm⟩⟩
      show 0 * 2048 + u.val < 1 * 2048 + t.val
      have := u.isLt
      omega
    refine (congrArg₂ (fun A B : Finset (Fin 2048) => A.card + B.card) e1 e0).trans ?_
    exact Nat.add_comm _ _

theorem place_le (a : Fin 2 → Fin 2048 → Fin 64) (k : Fin 2) (t : Fin 2048) : place a k t ≤ 4096 := by
  unfold place
  split
  · exact (placeA_le _ _).trans (by decide)
  · exact placeB_le _ _ _

/-- Whether a choice has a place in the buffer. -/
theorem v46_apply (k : Fin 2) (t : Fin 2048) :
    val_main_v46 (F := Ideal) x1 (ix1 (slot k t)) = if place (choices x1) k t < 160 then (1 : EReal) else 0 := by
  have hp := place_le (choices x1) k t
  rw [val_main_v46_apply, val_main_v45_apply, v43_apply, val_main_v44_apply, val_main_c_8_apply]
  rw [show (160#32 : BitVec 32) = BitVec.ofNat 32 160 from rfl,
    WordCmp.cmpi_slt_ofNat (w := 32) (a := place (choices x1) k t) (b := 160) (by omega) (by decide), value_ofBool]

/-- The place, or the last one where the choice has none. -/
theorem v48_apply (k : Fin 2) (t : Fin 2048) :
    val_main_v48 (F := Ideal) x1 (ix1 (slot k t)) = BitVec.ofNat 32 (min (place (choices x1) k t) 159) := by
  have hp := place_le (choices x1) k t
  rw [val_main_v48_apply, v43_apply, val_main_v47_apply, val_main_c_9_apply]
  obtain ⟨h, h1, h2⟩ := minsi_cases (BitVec.ofNat 32 (place (choices x1) k t)) (159#32)
  rw [WordCmp.toInt_ofNat_of_lt (by omega)] at h1
  rw [show (159#32 : BitVec 32).toInt = 159 from rfl] at h2
  rcases h with h | h
  · rw [h] at h2 ⊢
    rw [WordCmp.toInt_ofNat_of_lt (by omega)] at h2
    rw [Nat.min_eq_left (by omega)]
  · rw [h] at h1 ⊢
    rw [show (159#32 : BitVec 32).toInt = 159 from rfl] at h1
    rw [Nat.min_eq_right (by omega)]

end Cert.ReferenceIdeal.Layer
end
-- ==== Proof.RefMoves.lean ====
/- What the reference's gathers and scatters do with the rows of all choices. -/
module

public import proofs.«01_k».proof.Proof.RefPlaces

@[expose] public section

set_option maxRecDepth 16384

noncomputable section

open Idealize.ShloMosaic Idealize.ShloMosaic.ValueIdx Idealize.ShloMosaic.Routing Moe Cert.ReferenceIdeal Cert.ReferenceIdeal.Read
open scoped BigOperators

namespace Cert.ReferenceIdeal.Layer

/-- The row gather reads the row at the index word, a token's. -/
theorem gather_token (x : Vec Ideal S2048x1024 .f32) (idx : IVec S4096x1 32) (i : Fin 4096) (c : Fin 1024) (t : Fin 2048)
    (h : idx (ix2 i 0) = BitVec.ofNat 32 t.val) :
    Host.gather gather_S2048x1024_S4096x1_S4096x1024_1_0_n_n_0_1_11024 x idx (ix2 i c) = x (ix2 t c) := by
  have hs : gather_S2048x1024_S4096x1_S4096x1024_1_0_n_n_0_1_11024.siIdx (ix2 i c) ⟨0, by decide⟩ = ix2 i 0 := by
    funext b
    refine Fin.ext ?_
    match b with
    | ⟨0, _⟩ => rfl
    | ⟨1, _⟩ => rfl
  refine congrArg x (funext fun b => Fin.ext ?_)
  have ht := t.isLt
  match b with
  | ⟨0, _⟩ =>
    show min (idx (gather_S2048x1024_S4096x1_S4096x1024_1_0_n_n_0_1_11024.siIdx (ix2 i c) ⟨0, _⟩)).toInt.toNat (2048 - 1) + 0 + 0 = t.val
    rw [hs, h, WordCmp.toInt_ofNat_of_lt (by omega)]
    omega
  | ⟨1, _⟩ => show 0 + 0 + c.val = c.val; omega

/-- The gather from the buffers reads the row at the two index words, an expert's and a place's. -/
theorem gather_cell (y : Vec Ideal S64x160x1024 .f32) (idx : IVec S4096x2 32) (i : Fin 4096) (c : Fin 1024) (a : Fin 64) (b : Fin 160)
    (h0 : idx (ix2 i 0) = BitVec.ofNat 32 a.val) (h1 : idx (ix2 i 1) = BitVec.ofNat 32 b.val) :
    Host.gather gather_S64x160x1024_S4096x2_S4096x1024_1_01_n_n_01_1_111024 y idx (ix2 i c) = y (ix3 a b c) := by
  have s0 : gather_S64x160x1024_S4096x2_S4096x1024_1_01_n_n_01_1_111024.siIdx (ix2 i c) ⟨0, by decide⟩ = ix2 i 0 := by
    funext q
    refine Fin.ext ?_
    match q with
    | ⟨0, _⟩ => rfl
    | ⟨1, _⟩ => rfl
  have s1 : gather_S64x160x1024_S4096x2_S4096x1024_1_01_n_n_01_1_111024.siIdx (ix2 i c) ⟨1, by decide⟩ = ix2 i 1 := by
    funext q
    refine Fin.ext ?_
    match q with
    | ⟨0, _⟩ => rfl
    | ⟨1, _⟩ => rfl
  refine congrArg y (funext fun q => Fin.ext ?_)
  have ha := a.isLt
  have hb := b.isLt
  match q with
  | ⟨0, _⟩ =>
    show min (idx (gather_S64x160x1024_S4096x2_S4096x1024_1_01_n_n_01_1_111024.siIdx (ix2 i c) ⟨0, _⟩)).toInt.toNat (64 - 1) + 0 + 0 = a.val
    rw [s0, h0, WordCmp.toInt_ofNat_of_lt (by omega)]
    omega
  | ⟨1, _⟩ =>
    show min (idx (gather_S64x160x1024_S4096x2_S4096x1024_1_01_n_n_01_1_111024.siIdx (ix2 i c) ⟨1, _⟩)).toInt.toNat (160 - 1) + 0 + 0 = b.val
    rw [s1, h1, WordCmp.toInt_ofNat_of_lt (by omega)]
    omega
  | ⟨2, _⟩ => show 0 + 0 + c.val = c.val; omega

/-- Where a row of the scatter into the buffers lands: at the expert and the place its two words name. -/
theorem lands_cell (idx : IVec S4096x2 32) (i : Fin 4096) (a e : Fin 64) (b : ℕ) (hb : b < 160)
    (h0 : idx (ix2 i 0) = BitVec.ofNat 32 a.val) (h1 : idx (ix2 i 1) = BitVec.ofNat 32 b) (p : Fin 160) (c c' : Fin 1024) :
    scatter_S64x160x1024_S4096x2_S4096x1024_1_01_01_1.resultIdx? (ix2 i c') idx = some (ix3 e p c) ↔ (a = e ∧ b = p.val) ∧ c' = c := by
  have s0 : scatter_S64x160x1024_S4096x2_S4096x1024_1_01_01_1.siIdx (ix2 i c') ⟨0, by decide⟩ = ix2 i 0 := by
    funext q
    refine Fin.ext ?_
    match q with
    | ⟨0, _⟩ => rfl
    | ⟨1, _⟩ => rfl
  have s1 : scatter_S64x160x1024_S4096x2_S4096x1024_1_01_01_1.siIdx (ix2 i c') ⟨1, by decide⟩ = ix2 i 1 := by
    funext q
    refine Fin.ext ?_
    match q with
    | ⟨0, _⟩ => rfl
    | ⟨1, _⟩ => rfl
  have ha := a.isLt
  have e0 : scatter_S64x160x1024_S4096x2_S4096x1024_1_01_01_1.start (ix2 i c') idx ⟨0, by decide⟩ = (a.val : Int) := by
    show (idx (scatter_S64x160x1024_S4096x2_S4096x1024_1_01_01_1.siIdx (ix2 i c') ⟨0, _⟩)).toInt = (a.val : Int)
    rw [s0, h0, WordCmp.toInt_ofNat_of_lt (by omega)]
  have e1 : scatter_S64x160x1024_S4096x2_S4096x1024_1_01_01_1.start (ix2 i c') idx ⟨1, by decide⟩ = (b : Int) := by
    show (idx (scatter_S64x160x1024_S4096x2_S4096x1024_1_01_01_1.siIdx (ix2 i c') ⟨1, _⟩)).toInt = (b : Int)
    rw [s1, h1, WordCmp.toInt_ofNat_of_lt (by omega)]
  rw [resultIdx?_eq_some]
  constructor
  · intro h
    have g0 := h ⟨0, by decide⟩
    have g1 := h ⟨1, by decide⟩
    have g2 := h ⟨2, by decide⟩
    rw [e0] at g0
    rw [e1] at g1
    change (a.val : Int) + ((0 : ℕ) : Int) = (e.val : Int) at g0
    change (b : Int) + ((0 : ℕ) : Int) = (p.val : Int) at g1
    change (0 : Int) + (c'.val : Int) = (c.val : Int) at g2
    exact ⟨⟨Fin.ext (by omega), by omega⟩, Fin.ext (by omega)⟩
  · rintro ⟨⟨rfl, g1⟩, rfl⟩ q
    match q with
    | ⟨0, _⟩ => rw [e0]; show (a.val : Int) + ((0 : ℕ) : Int) = (a.val : Int); omega
    | ⟨1, _⟩ => rw [e1]; show (b : Int) + ((0 : ℕ) : Int) = (p.val : Int); omega
    | ⟨2, _⟩ => show (0 : Int) + (c'.val : Int) = (c'.val : Int); omega

/-- A sum with one term that counts. -/
theorem sum_one (q : Prop) [Decidable q] (f : Fin 1024 → EReal) (c : Fin 1024) :
    ∑ c', (if q ∧ c' = c then f c' else 0) = if q then f c else 0 := by
  by_cases hq : q
  · simp only [hq, true_and, if_true]
    exact (Finset.sum_ite_eq' Finset.univ c f).trans (if_pos (Finset.mem_univ c))
  · simp [hq]

/-- The scatter into the buffers adds, at an expert's place, the rows of all choices that name it. -/
theorem scatter_cells (x : Vec Ideal S64x160x1024 .f32) (idx : IVec S4096x2 32) (upd : Vec Ideal S4096x1024 .f32)
    (a : Fin 2 → Fin 2048 → Fin 64) (b : Fin 2 → Fin 2048 → ℕ) (hb : ∀ k t, b k t < 160)
    (h0 : ∀ k t, idx (ix2 (slot k t) 0) = BitVec.ofNat 32 (a k t).val) (h1 : ∀ k t, idx (ix2 (slot k t) 1) = BitVec.ofNat 32 (b k t))
    (e : Fin 64) (p : Fin 160) (c : Fin 1024) :
    Host.scatterAdd (F := Ideal) (φ := .f32) scatter_S64x160x1024_S4096x2_S4096x1024_1_01_01_1 x idx upd (ix3 e p c)
      = x (ix3 e p c) + ∑ t : Fin 2048, ((if a 0 t = e ∧ b 0 t = p.val then (upd (ix2 (slot 0 t) c) : EReal) else 0)
        + (if a 1 t = e ∧ b 1 t = p.val then (upd (ix2 (slot 1 t) c) : EReal) else 0)) := by
  show Ideal.hostScatterAdd _ x idx upd (ix3 e p c) = _
  unfold Ideal.hostScatterAdd
  refine congrArg (fun y : EReal => x (ix3 e p c) + y) ?_
  rw [Finset.sum_filter, sum_idx2, sum_slots, ← Finset.sum_add_distrib]
  have row : ∀ k t, ∑ c' : Fin 1024, (if scatter_S64x160x1024_S4096x2_S4096x1024_1_01_01_1.resultIdx? (ix2 (slot k t) c') idx = some (ix3 e p c)
      then (upd (ix2 (slot k t) c') : EReal) else 0) = if a k t = e ∧ b k t = p.val then (upd (ix2 (slot k t) c) : EReal) else 0 := fun k t => by
    rw [← sum_one (a k t = e ∧ b k t = p.val) (fun c' => upd (ix2 (slot k t) c')) c]
    exact Finset.sum_congr rfl fun c' _ => if_congr (lands_cell idx (slot k t) (a k t) e (b k t) (hb k t) (h0 k t) (h1 k t) p c c') rfl rfl
  exact Finset.sum_congr rfl fun t _ => congrArg₂ (fun y z : EReal => y + z) (row 0 t) (row 1 t)

/-- Where a row of the last scatter lands: at the token its word names. -/
theorem lands_row (idx : IVec S4096x1 32) (i : Fin 4096) (t t' : Fin 2048) (h : idx (ix2 i 0) = BitVec.ofNat 32 t'.val) (c c' : Fin 1024) :
    scatter_S2048x1024_S4096x1_S4096x1024_1_0_0_1.resultIdx? (ix2 i c') idx = some (ix2 t c) ↔ t' = t ∧ c' = c := by
  have s0 : scatter_S2048x1024_S4096x1_S4096x1024_1_0_0_1.siIdx (ix2 i c') ⟨0, by decide⟩ = ix2 i 0 := by
    funext q
    refine Fin.ext ?_
    match q with
    | ⟨0, _⟩ => rfl
    | ⟨1, _⟩ => rfl
  have ht := t'.isLt
  have e0 : scatter_S2048x1024_S4096x1_S4096x1024_1_0_0_1.start (ix2 i c') idx ⟨0, by decide⟩ = (t'.val : Int) := by
    show (idx (scatter_S2048x1024_S4096x1_S4096x1024_1_0_0_1.siIdx (ix2 i c') ⟨0, _⟩)).toInt = (t'.val : Int)
    rw [s0, h, WordCmp.toInt_ofNat_of_lt (by omega)]
  rw [resultIdx?_eq_some]
  constructor
  · intro g
    have g0 := g ⟨0, by decide⟩
    have g1 := g ⟨1, by decide⟩
    rw [e0] at g0
    change (t'.val : Int) + ((0 : ℕ) : Int) = (t.val : Int) at g0
    change (0 : Int) + (c'.val : Int) = (c.val : Int) at g1
    exact ⟨Fin.ext (by omega), Fin.ext (by omega)⟩
  · rintro ⟨rfl, rfl⟩ q
    match q with
    | ⟨0, _⟩ => rw [e0]; show (t'.val : Int) + ((0 : ℕ) : Int) = (t'.val : Int); omega
    | ⟨1, _⟩ => show (0 : Int) + (c'.val : Int) = (c'.val : Int); omega

/-- The last scatter adds, at a token, the rows of its two choices. -/
theorem scatter_rows (x : Vec Ideal S2048x1024 .f32) (idx : IVec S4096x1 32) (upd : Vec Ideal S4096x1024 .f32)
    (h : ∀ k t, idx (ix2 (slot k t) 0) = BitVec.ofNat 32 t.val) (t : Fin 2048) (c : Fin 1024) :
    Host.scatterAdd (F := Ideal) (φ := .f32) scatter_S2048x1024_S4096x1_S4096x1024_1_0_0_1 x idx upd (ix2 t c)
      = x (ix2 t c) + ((upd (ix2 (slot 0 t) c) : EReal) + upd (ix2 (slot 1 t) c)) := by
  show Ideal.hostScatterAdd _ x idx upd (ix2 t c) = _
  unfold Ideal.hostScatterAdd
  refine congrArg (fun y : EReal => x (ix2 t c) + y) ?_
  rw [Finset.sum_filter, sum_idx2, sum_slots]
  have row : ∀ k, ∑ u : Fin 2048, ∑ c' : Fin 1024, (if scatter_S2048x1024_S4096x1_S4096x1024_1_0_0_1.resultIdx? (ix2 (slot k u) c') idx = some (ix2 t c)
      then (upd (ix2 (slot k u) c') : EReal) else 0) = upd (ix2 (slot k t) c) := fun k => by
    have inner : ∀ u : Fin 2048, ∑ c' : Fin 1024, (if scatter_S2048x1024_S4096x1_S4096x1024_1_0_0_1.resultIdx? (ix2 (slot k u) c') idx = some (ix2 t c)
        then (upd (ix2 (slot k u) c') : EReal) else 0) = if u = t then (upd (ix2 (slot k u) c) : EReal) else 0 := fun u => by
      rw [← sum_one (u = t) (fun c' => upd (ix2 (slot k u) c')) c]
      exact Finset.sum_congr rfl fun c' _ => if_congr (lands_row idx (slot k u) t u (h k u) c c') rfl rfl
    refine (Finset.sum_congr rfl fun u _ => inner u).trans ?_
    exact (Finset.sum_ite_eq' Finset.univ t (fun u => (upd (ix2 (slot k u) c) : EReal))).trans (if_pos (Finset.mem_univ t))
  exact congrArg₂ (fun y z : EReal => y + z) (row 0) (row 1)

/-- Two columns side by side, read at either. -/
theorem beside_apply (u v : IVec S4096x1 32) (h : Shape.Concatenates [S4096x1, S4096x1] S4096x2 1) (i : Fin 4096) :
    concatenate S4096x2 1 [⟨S4096x1, u⟩, ⟨S4096x1, v⟩] h (ix2 i 0) = u (ix2 i 0)
      ∧ concatenate S4096x2 1 [⟨S4096x1, u⟩, ⟨S4096x1, v⟩] h (ix2 i 1) = v (ix2 i 0) := by
  refine ⟨?_, ?_⟩
  · refine concatenate_pair_apply_left (t := S4096x2) 1 _ _ h (ix2 i 0) rfl (ix2 i 0) ?_
    intro b
    match b with
    | ⟨0, _⟩ => rfl
    | ⟨1, _⟩ => rfl
  · refine concatenate_pair_apply_right (t := S4096x2) 1 _ _ h (ix2 i 1) rfl rfl (ix2 i 0) ?_ rfl
    intro b hb
    match b with
    | ⟨0, _⟩ => rfl
    | ⟨1, _⟩ => exact absurd rfl hb

end Cert.ReferenceIdeal.Layer
end
-- ==== Proof.RefOut.lean ====
/- The reference's buffers, experts and combined rows: its result is the layer. -/
module

public import proofs.«01_k».proof.Proof.RefMoves

@[expose] public section

set_option maxRecDepth 16384

noncomputable section

open Idealize.ShloMosaic Idealize.ShloMosaic.ValueIdx Idealize.ShloMosaic.Routing Moe Cert.ReferenceIdeal Cert.ReferenceIdeal.Read
open scoped BigOperators

namespace Cert.ReferenceIdeal.Layer

variable (x0 : Vec Ideal S2048x1024 .f32) (x1 : Vec Ideal S2048x64 .f32) (x2 : Vec Ideal S64 .f32)
  (x3 x4 : Vec Ideal S64x512x1024 .f32) (x5 : Vec Ideal S64x1024x512 .f32)

/-- A word below half the range is not negative, so it is not wrapped. -/
theorem wrap_small (n : ℕ) (hn : n < 2 ^ 31) (x : BitVec 32) :
    Scalar.select (IntOp.cmpi .slt (BitVec.ofNat 32 n) 0#32) x (BitVec.ofNat 32 n) = BitVec.ofNat 32 n :=
  wrap_of_lt _ _ (by rw [WordCmp.toNat_ofNat_of_lt (by omega)]; exact hn)

/-! ## The index columns -/

theorem v55_apply (k : Fin 2) (t : Fin 2048) : val_main_v55 (F := Ideal) (ix2 (slot k t) 0) = BitVec.ofNat 32 t.val := by
  rw [val_main_v55_apply]
  refine (congrArg (val_main_v54 (F := Ideal)) (eq_ix1 (idx_main_v55 (ix2 (slot k t) 0)))).trans ?_
  show val_main_v54 (F := Ideal) (ix1 (slot k t)) = _
  have ht := t.isLt
  rw [val_main_v54_apply, val_main_v51_apply, val_main_v50_apply, val_main_c_11_apply, v38_apply, wrap_small _ (by omega)]

theorem v114_apply (k : Fin 2) (t : Fin 2048) : val_main_v114 (F := Ideal) (ix2 (slot k t) 0) = BitVec.ofNat 32 t.val := by
  rw [val_main_v114_apply]
  refine (congrArg (val_main_v113 (F := Ideal)) (eq_ix1 (idx_main_v114 (ix2 (slot k t) 0)))).trans ?_
  show val_main_v113 (F := Ideal) (ix1 (slot k t)) = _
  have ht := t.isLt
  rw [val_main_v113_apply, val_main_v110_apply, val_main_v109_apply, val_main_c_25_apply, v38_apply, wrap_small _ (by omega)]

theorem v70_apply (k : Fin 2) (t : Fin 2048) :
    val_main_v70 (F := Ideal) x1 (ix2 (slot k t) 0) = BitVec.ofNat 32 (choices x1 k t).val := by
  rw [val_main_v70_apply]
  refine (congrArg (val_main_v64 (F := Ideal) x1) (eq_ix1 (idx_main_v70 (ix2 (slot k t) 0)))).trans ?_
  show val_main_v64 (F := Ideal) x1 (ix1 (slot k t)) = _
  rw [val_main_v64_apply, val_main_v61_apply, val_main_v60_apply, val_main_c_13_apply, v32_apply, wrap_expert]

theorem v98_apply (k : Fin 2) (t : Fin 2048) :
    val_main_v98 (F := Ideal) x1 (ix2 (slot k t) 0) = BitVec.ofNat 32 (choices x1 k t).val := by
  rw [val_main_v98_apply]
  refine (congrArg (val_main_v92 (F := Ideal) x1) (eq_ix1 (idx_main_v98 (ix2 (slot k t) 0)))).trans ?_
  show val_main_v92 (F := Ideal) x1 (ix1 (slot k t)) = _
  rw [val_main_v92_apply, val_main_v89_apply, val_main_v88_apply, val_main_c_20_apply, v32_apply, wrap_expert]

/-- The place a choice's row goes to: its own, or the last one where it has none. -/
def spot (k : Fin 2) (t : Fin 2048) : Fin 160 := ⟨min (place (choices x1) k t) 159, by omega⟩

theorem v71_apply (k : Fin 2) (t : Fin 2048) :
    val_main_v71 (F := Ideal) x1 (ix2 (slot k t) 0) = BitVec.ofNat 32 (spot x1 k t).val := by
  rw [val_main_v71_apply]
  refine (congrArg (val_main_v69 (F := Ideal) x1) (eq_ix1 (idx_main_v71 (ix2 (slot k t) 0)))).trans ?_
  show val_main_v69 (F := Ideal) x1 (ix1 (slot k t)) = _
  rw [val_main_v69_apply, val_main_v66_apply, val_main_v65_apply, val_main_c_15_apply, v48_apply, wrap_small _ (by omega)]
  rfl

theorem v99_apply (k : Fin 2) (t : Fin 2048) :
    val_main_v99 (F := Ideal) x1 (ix2 (slot k t) 0) = BitVec.ofNat 32 (spot x1 k t).val := by
  rw [val_main_v99_apply]
  refine (congrArg (val_main_v97 (F := Ideal) x1) (eq_ix1 (idx_main_v99 (ix2 (slot k t) 0)))).trans ?_
  show val_main_v97 (F := Ideal) x1 (ix1 (slot k t)) = _
  rw [val_main_v97_apply, val_main_v94_apply, val_main_v93_apply, val_main_c_22_apply, v48_apply, wrap_small _ (by omega)]
  rfl

/-! ## The rows -/

theorem v58_apply (k : Fin 2) (t : Fin 2048) (d : Fin 1024) :
    val_main_v58 (F := Ideal) x1 (ix2 (slot k t) d) = if place (choices x1) k t < 160 then (1 : EReal) else 0 := by
  rw [val_main_v58_apply, val_main_v57_apply]
  exact (congrArg (val_main_v46 (F := Ideal) x1) (eq_ix1 (idx_main_v57 (idx_main_v58 (ix2 (slot k t) d))))).trans (v46_apply x1 k t)

theorem v103_apply (k : Fin 2) (t : Fin 2048) (d : Fin 1024) :
    val_main_v103 (F := Ideal) x1 (ix2 (slot k t) d) = if place (choices x1) k t < 160 then (1 : EReal) else 0 := by
  rw [val_main_v103_apply, val_main_v102_apply]
  exact (congrArg (val_main_v46 (F := Ideal) x1) (eq_ix1 (idx_main_v102 (idx_main_v103 (ix2 (slot k t) d))))).trans (v46_apply x1 k t)

theorem v107_apply {r : Fin 2048 → Fin 64 → ℝ} (hr : ∀ t e, logits x1 t e = r t e) (k : Fin 2) (t : Fin 2048) (d : Fin 1024) :
    val_main_v107 (F := Ideal) x1 x2 (ix2 (slot k t) d) = weight (logits x1 t) (scales x2) k := by
  rw [val_main_v107_apply, val_main_v106_apply]
  exact (congrArg (val_main_v34 (F := Ideal) x1 x2) (eq_ix1 (idx_main_v106 (idx_main_v107 (ix2 (slot k t) d))))).trans (v34_apply x1 hr x2 k t)

/-- The tokens' rows. -/
def rows (t : Fin 2048) (d : Fin 1024) : EReal := x0 (ix2 t d)

theorem v59_apply (k : Fin 2) (t : Fin 2048) (d : Fin 1024) :
    val_main_v59 (F := Ideal) x0 x1 (ix2 (slot k t) d) = if place (choices x1) k t < 160 then rows x0 t d else 0 := by
  have h : val_main_v56 (F := Ideal) x0 (ix2 (slot k t) d) = rows x0 t d := gather_token x0 _ (slot k t) d t (v55_apply k t)
  rw [val_main_v59_apply, h, v58_apply]
  split
  · exact mul_one (rows x0 t d)
  · exact mul_zero (rows x0 t d)

/-- The reference's buffers. -/
theorem v73_apply (e : Fin 64) (p : Fin 160) (d : Fin 1024) :
    val_main_v73 (F := Ideal) x0 x1 (ix3 e p d) = buffer (choices x1 0) (choices x1 1) (rows x0) e p.val d := by
  have cols := fun i => beside_apply (val_main_v70 (F := Ideal) x1) (val_main_v71 (F := Ideal) x1) Gen.concatenates_S4096x1_S4096x1_S4096x2_d1 i
  unfold val_main_v73
  refine (scatter_cells _ _ _ (choices x1) (fun k t => (spot x1 k t).val) (fun k t => (spot x1 k t).isLt)
    (fun k t => (cols (slot k t)).1.trans (v70_apply x1 k t)) (fun k t => (cols (slot k t)).2.trans (v71_apply x1 k t)) e p d).trans ?_
  rw [val_main_v49_apply, val_main_cst_10_apply, zero_f32]
  refine (zero_add (_ : EReal)).trans ?_
  unfold buffer
  have hp := p.isLt
  have term : ∀ k t, (if choices x1 k t = e ∧ (spot x1 k t).val = p.val then (val_main_v59 (F := Ideal) x0 x1 (ix2 (slot k t) d) : EReal) else 0)
      = if choices x1 k t = e ∧ place (choices x1) k t = p.val then rows x0 t d else 0 := fun k t => by
    rw [v59_apply]
    by_cases hl : place (choices x1) k t < 160
    · rw [if_pos hl]
      have e1 : (spot x1 k t).val = place (choices x1) k t := Nat.min_eq_left (by omega)
      rw [e1]
    · rw [if_neg hl, if_neg (show ¬(choices x1 k t = e ∧ place (choices x1) k t = p.val) by omega), ite_self]
  exact Finset.sum_congr rfl fun t _ => congrArg₂ (fun y z : EReal => y + z) (term 0 t) (term 1 t)

/-! ## The experts -/

/-- A weight array as an expert's table. -/
def table {n m : ℕ} (w : Vec Ideal (shape3 64 n m) .f32) (e : Fin 64) (i : Fin n) (j : Fin m) : EReal := w (ix3 e i j)

theorem v74_apply (e : Fin 64) (p : Fin 160) (f : Fin 512) :
    val_main_v74 (F := Ideal) x0 x1 x3 (ix3 e p f) = linear (table x3 e) (buffer (choices x1 0) (choices x1 1) (rows x0) e p.val) f := by
  rw [val_main_v74_apply]
  unfold linear
  refine Finset.sum_congr rfl fun k _ => ?_
  rw [← v73_apply x0 x1 e p k]
  exact congrArg₂ (fun i j => val_main_v73 (F := Ideal) x0 x1 i * x3 j) (eq_ix3 (lidx_main_v74 (ix3 e p f) k)) (eq_ix3 (ridx_main_v74 (ix3 e p f) k))

theorem v75_apply (e : Fin 64) (p : Fin 160) (f : Fin 512) :
    val_main_v75 (F := Ideal) x0 x1 x4 (ix3 e p f) = linear (table x4 e) (buffer (choices x1 0) (choices x1 1) (rows x0) e p.val) f := by
  rw [val_main_v75_apply]
  unfold linear
  refine Finset.sum_congr rfl fun k _ => ?_
  rw [← v73_apply x0 x1 e p k]
  exact congrArg₂ (fun i j => val_main_v73 (F := Ideal) x0 x1 i * x4 j) (eq_ix3 (lidx_main_v75 (ix3 e p f) k)) (eq_ix3 (ridx_main_v75 (ix3 e p f) k))

/-- The divisor of the activation is the root of two. -/
theorem v80_apply (i : S64x160x512.Idx) : val_main_v80 (F := Ideal) i = ((Real.sqrt 2 : ℝ) : EReal) := by
  rw [val_main_v80_apply, val_main_v79_apply, val_main_v78_apply, val_main_cst_18_apply]
  show Ideal.sqrt (Ideal.ofBits .f32 0x40000000#32) = _
  have h : Ideal.ofBits .f32 0x40000000#32 = ((2 : ℝ) : EReal) := by
    simp [Ideal.ofBits, Ideal.ieee]
    rw [← EReal.coe_mul]
    exact congrArg _ (by norm_num)
  rw [h]
  show (if (2 : ℝ) < 0 then (⊥ : EReal) else ((Real.sqrt 2 : ℝ) : EReal)) = _
  rw [if_neg (by norm_num)]

theorem v86_apply (e : Fin 64) (p : Fin 160) (f : Fin 512) :
    val_main_v86 (F := Ideal) x0 x1 x3 x4 (ix3 e p f)
      = Moe.hidden (table x3 e) (table x4 e) (buffer (choices x1 0) (choices x1 1) (rows x0) e p.val) f := by
  rw [val_main_v86_apply, val_main_v85_apply, val_main_v84_apply, val_main_v83_apply, val_main_v82_apply, val_main_v81_apply, val_main_v77_apply,
    val_main_v76_apply, val_main_cst_17_apply, val_main_cst_19_apply, v74_apply, v75_apply, v80_apply, one_f32]
  unfold Moe.hidden gelu
  have hd : ∀ v : EReal, Ideal.div v ((Real.sqrt 2 : ℝ) : EReal) = v * (((Real.sqrt 2)⁻¹ : ℝ) : EReal) := fun v => by
    rw [Ideal.div_coe (by positivity), one_div]
  rw [← hd]
  rfl

/-- The reference's experts. -/
theorem v87_apply (e : Fin 64) (p : Fin 160) (d : Fin 1024) :
    val_main_v87 (F := Ideal) x0 x1 x3 x4 x5 (ix3 e p d)
      = expert (choices x1 0) (choices x1 1) (rows x0) (table x3) (table x4) (table x5) e p.val d := by
  rw [val_main_v87_apply]
  unfold expert
  show _ = ∑ k, Moe.hidden (table x3 e) (table x4 e) (buffer (choices x1 0) (choices x1 1) (rows x0) e p.val) k * table x5 e d k
  refine Finset.sum_congr rfl fun k _ => ?_
  rw [← v86_apply x0 x1 x3 x4 e p k]
  exact congrArg₂ (fun i j => val_main_v86 (F := Ideal) x0 x1 x3 x4 i * x5 j) (eq_ix3 (lidx_main_v87 (ix3 e p d) k)) (eq_ix3 (ridx_main_v87 (ix3 e p d) k))

/-! ## The combined rows -/

theorem v108_apply {r : Fin 2048 → Fin 64 → ℝ} (hr : ∀ t e, logits x1 t e = r t e) (k : Fin 2) (t : Fin 2048) (d : Fin 1024) :
    val_main_v108 (F := Ideal) x0 x1 x2 x3 x4 x5 (ix2 (slot k t) d)
      = if place (choices x1) k t < 160 then weight (logits x1 t) (scales x2) k
          * expert (choices x1 0) (choices x1 1) (rows x0) (table x3) (table x4) (table x5) (choices x1 k t) (place (choices x1) k t) d
        else 0 := by
  have cols := beside_apply (val_main_v98 (F := Ideal) x1) (val_main_v99 (F := Ideal) x1) Gen.concatenates_S4096x1_S4096x1_S4096x2_d1 (slot k t)
  have h : val_main_v101 (F := Ideal) x0 x1 x3 x4 x5 (ix2 (slot k t) d)
      = expert (choices x1 0) (choices x1 1) (rows x0) (table x3) (table x4) (table x5) (choices x1 k t) (spot x1 k t).val d :=
    (gather_cell _ _ (slot k t) d (choices x1 k t) (spot x1 k t) (cols.1.trans (v98_apply x1 k t)) (cols.2.trans (v99_apply x1 k t))).trans
      (v87_apply x0 x1 x3 x4 x5 _ _ d)
  rw [val_main_v108_apply, v107_apply x1 x2 hr, val_main_v104_apply, h, v103_apply]
  by_cases hl : place (choices x1) k t < 160
  · have e1 : (spot x1 k t).val = place (choices x1) k t := Nat.min_eq_left (by omega)
    rw [if_pos hl, if_pos hl, e1]
    exact congrArg (fun y : EReal => weight (logits x1 t) (scales x2) k * y) (mul_one (_ : EReal))
  · rw [if_neg hl, if_neg hl]
    exact (congrArg (fun y : EReal => weight (logits x1 t) (scales x2) k * y) (mul_zero (_ : EReal))).trans (mul_zero (_ : EReal))

/-- The reference's result is the layer of its arguments, where every score is a real number. -/
theorem value {r : Fin 2048 → Fin 64 → ℝ} (hr : ∀ t e, logits x1 t e = r t e) (z : Fin 1) (t : Fin 2048) (d : Fin 1024) :
    val_main_v116 (F := Ideal) x0 x1 x2 x3 x4 x5 (ix3 z t d)
      = layer (rows x0) (logits x1) (scales x2) (table x3) (table x4) (table x5) t d := by
  rw [val_main_v116_apply]
  refine (congrArg (val_main_v115 (F := Ideal) x0 x1 x2 x3 x4 x5) (eq_ix2 (idx_main_v116 (ix3 z t d)))).trans ?_
  show val_main_v115 (F := Ideal) x0 x1 x2 x3 x4 x5 (ix2 t d) = _
  unfold val_main_v115
  refine (scatter_rows _ _ _ (fun k t => v114_apply k t) t d).trans ?_
  rw [val_main_v105_apply, val_main_cst_24_apply, zero_f32]
  refine (zero_add (_ : EReal)).trans ?_
  rw [v108_apply x0 x1 x2 x3 x4 x5 hr, v108_apply x0 x1 x2 x3 x4 x5 hr]
  rfl

end Cert.ReferenceIdeal.Layer
end
-- ==== Proof.Finite.lean ====
/- The precondition: every router logit is a real number. -/
module

public import proofs.«01_k».proof.Pre_finite_logits
public import proofs.«01_k».proof.Proof.RefChoice
public import Idealize.ShloMosaic.Lib.ReduceAll

@[expose] public section

set_option maxRecDepth 16384

noncomputable section

open Idealize.ShloMosaic Idealize.ShloMosaic.ValueIdx

namespace Cert.Pre_finite_logits

/-- The side conditions the precondition states. -/
theorem facts : Facts := ⟨by decide, by decide, by decide⟩

/-- A value whose magnitude is below infinity is a real number. -/
theorem real_of_magnitude (x : EReal) (h : (FloatOps.cmpf (F := Ideal) (φ := .f32) .olt (FloatOps.hostAbsf (F := Ideal) (φ := .f32) x)
    (FloatOps.ofBits .f32 0x7F800000#32) : BitVec 1) = 1#1) : ∃ r : ℝ, x = r := by
  have htop : Ideal.ofBits .f32 0x7F800000#32 = ⊤ := by simp [Ideal.ofBits, Ideal.ieee]
  change BitVec.ofBool (decide (max x (-x) < Ideal.ofBits .f32 0x7F800000#32)) = 1#1 at h
  rw [htop] at h
  induction x using EReal.rec with
  | bot => simp at h
  | top => simp at h
  | coe r => exact ⟨r, rfl⟩

/-- Where the precondition holds, every logit is a real number. -/
theorem logit_real [Facts] (a0 : FVec Ideal S2048x1024 .f32) (a1 : FVec Ideal S2048x64 .f32) (a2 : FVec Ideal S64 .f32)
    (a3 a4 : FVec Ideal S64x512x1024 .f32) (a5 : FVec Ideal S64x1024x512 .f32)
    (h : fn (F := Ideal) a0 a1 a2 a3 a4 a5 = fun _ => 1#1) (i : S2048x64.Idx) : ∃ r : ℝ, a1 i = (r : EReal) := by
  refine real_of_magnitude _ ?_
  have h0 := congrFun h ix0
  exact Host.reduce_andi_eq_one _ _ _ _ ix0 h0 i (funext fun a => a.elim0)

end Cert.Pre_finite_logits
end
-- ==== Proof.lean ====
/- The certificate: the three programs run and leave their arguments unchanged, the kernel with named constants is the
   kernel's idealization, and it computes the reference's result wherever every router logit is finite. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.KernelValue
public import proofs.«01_k».proof.Proof.RefOut
public import proofs.«01_k».proof.Proof.Finite
public import Idealize.ShloMosaic.Adequacy
public import Idealize.ShloMosaic.Init

@[expose] public section

noncomputable section

namespace Cert.Proof

open Idealize.ShloMosaic Idealize.ShloMosaic.ValueIdx Idealize.ShloMosaic.StableHlo Idealize.SL.Sem

/-- The two named constants: the mask is minus infinity, and the factor in the activation is the inverse root of two. -/
theorem named_constants : Cert.preserves_Kernel_KernelIdeal :=
  ⟨IdealRules.named_const.statement Cert.KernelIdeal.κ "mask" .f32 0xFF61B1E6#32 _ rfl,
   IdealRules.named_const.statement Cert.KernelIdeal.κ "inv_sqrt2" .f32 0x3F3504F3#32 _ rfl⟩

/-- The reference runs, leaves its arguments unchanged, and ends with no semaphore raised. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On one device, from equal arguments, the reference's result is the kernel's, if every logit is a real number. -/
theorem results_equal (m : (ℓ : Loc Cert.KernelIdeal.nD Cert.KernelIdeal.τ Cert.KernelIdeal.sig) → Buf (Elt Ideal) ℓ) (c : Dev Cert.KernelIdeal.nD)
    (hr : ∀ t e, ∃ r : ℝ, (Cert.KernelIdeal.Step.argL m c) (ix2 t e) = (r : EReal)) :
    Cert.ReferenceIdeal.Read.val_main_v116 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
      = Cert.KernelIdeal.Value.G6 m c := by
  choose r hr using hr
  funext i
  obtain ⟨z, t, d, rfl⟩ : ∃ (z : Fin 1) (t : Fin 2048) (d : Fin 1024), i = ix3 z t d := ⟨_, _, _, eq_ix3 i⟩
  obtain rfl : z = 0 := Subsingleton.elim _ _
  refine (Cert.ReferenceIdeal.Layer.value _ _ _ _ _ _ (r := r) hr 0 t d).trans (Eq.symm ?_)
  refine (Cert.KernelIdeal.Step.value m c (fun t e => ?_) t d).trans rfl
  show Cert.KernelIdeal.Step.argL m c (ix2 t e) ≠ ⊥
  rw [hr t e]
  exact EReal.coe_ne_bot _

/-- From equal arguments, every router logit finite, the kernel with named constants and the reference end with equal results. -/
theorem values : Cert.algebraic_KernelIdeal_ReferenceIdeal_pre_finite_logits (hKernelIdeal := Cert.KernelIdeal.Gen.facts)
    (hReferenceIdeal := Cert.ReferenceIdeal.Gen.facts) (hPre_finite_logits := Cert.Pre_finite_logits.facts) := by
  intro m g m' g' hpre hargs
  refine ⟨fun c => Cert.KernelIdeal.Value.G6 m c, Cert.KernelIdeal.Value.run m g,
    (θ_run Cert.ReferenceIdeal.defs _ _).mono (fun r h c => ⟨?_, (h c).2⟩) (Cert.ReferenceIdeal.Value.run (F := Ideal) m' g')⟩
  have real : ∀ t e, ∃ r : ℝ, (Cert.KernelIdeal.Step.argL m c) (ix2 t e) = (r : EReal) := fun t e =>
    letI := Cert.Pre_finite_logits.facts
    Cert.Pre_finite_logits.logit_real _ _ _ _ _ _ (hpre c) (ix2 t e)
  have e : _ = Cert.ReferenceIdeal.Read.val_main_v116 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5)) :=
    (h c).1.trans (Cert.ReferenceIdeal.Read.val_main_v116_eq (launchContents m' c))
  obtain ⟨h0, h1, h2, h3, h4, h5⟩ := hargs c
  rw [h0, h1, h2, h3, h4, h5] at e
  exact e.trans (results_equal m c real)

theorem claim : Cert.Claim :=
  ⟨Cert.Kernel.Gen.facts, Cert.KernelIdeal.Gen.facts, Cert.ReferenceIdeal.Gen.facts, Cert.Pre_finite_logits.facts,
   fun m ρ _ => Cert.Kernel.Gen.frame m ρ, fun m ρ _ => Cert.KernelIdeal.Gen.frame m ρ, fun m ρ _ => Cert.KernelIdeal.Gen.frame m ρ,
   reference_frame, fun m ρ _ => reference_frame m ρ trivial, named_constants, values⟩

end Cert.Proof

end
